-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_proj [hPre_finite_proj : Cert.Pre_finite_proj.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_proj.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_proj [hPre_finite_proj : Cert.Pre_finite_proj.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_proj.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_proj [hKernel2Ideal : Cert.Kernel2Ideal.Facts] [hPre_finite_proj : Cert.Pre_finite_proj.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_proj m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_proj [hReference2Ideal : Cert.Reference2Ideal.Facts] [hPre_finite_proj : Cert.Pre_finite_proj.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_proj m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "qscale" .f32 0x3E38AA3B#32 (((1 / 8) * (Real.log 2)⁻¹ : ℝ) : EReal)
  ∧ IdealRules.bf16_pack.Statement Cert.Kernel2Ideal.S512x1024

def algebraic_Kernel2Ideal_Reference2Ideal_pre_finite_proj [hKernel2Ideal : Cert.Kernel2Ideal.Facts] [hReference2Ideal : Cert.Reference2Ideal.Facts] [hPre_finite_proj : Cert.Pre_finite_proj.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_proj m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)) (v5 : (c : Dev Cert.Kernel2Ideal.nD) → Buf (Elt Ideal) ((c.tc : Thread Cert.Kernel2Ideal.nD Cert.Kernel2Ideal.τ).loc Cert.Kernel2Ideal.main_v14_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_v14_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v44) = v1 c
          ∧ r.2.mem ((c.tc : Thread Cert.Reference2Ideal.nD Cert.Reference2Ideal.τ).loc Cert.Reference2Ideal.main_v46) = v2 c
          ∧ r.2.mem ((c.tc : Thread Cert.Reference2Ideal.nD Cert.Reference2Ideal.τ).loc Cert.Reference2Ideal.main_v48) = v3 c
          ∧ r.2.mem ((c.tc : Thread Cert.Reference2Ideal.nD Cert.Reference2Ideal.τ).loc Cert.Reference2Ideal.main_v50) = v4 c
          ∧ r.2.mem ((c.tc : Thread Cert.Reference2Ideal.nD Cert.Reference2Ideal.τ).loc Cert.Reference2Ideal.main_v52) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  IdealRules.bf16_pack.Statement Cert.Kernel3Ideal.S256x1024

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v25_0)) (v1 : (c : Dev Cert.Kernel3Ideal.nD) → Buf (Elt Ideal) ((c.tc : Thread Cert.Kernel3Ideal.nD Cert.Kernel3Ideal.τ).loc Cert.Kernel3Ideal.main_v25_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v25_0) = v0 c
          ∧ r.2.mem ((c.tc : Thread Cert.Kernel3Ideal.nD Cert.Kernel3Ideal.τ).loc Cert.Kernel3Ideal.main_v25_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_proj : Cert.Pre_finite_proj.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_proj (hKernel2Ideal := hKernel2Ideal) (hPre_finite_proj := hPre_finite_proj)
    ∧ quiescent_Reference2Ideal (hReference2Ideal := hReference2Ideal)
    ∧ quiescent_Reference2Ideal_pre_finite_proj (hReference2Ideal := hReference2Ideal) (hPre_finite_proj := hPre_finite_proj)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_proj (hKernel2Ideal := hKernel2Ideal) (hReference2Ideal := hReference2Ideal) (hPre_finite_proj := hPre_finite_proj)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_proj.lean ====
abbrev S8x2048x1024 : Shape := ⟨3, ![8, 2048, 1024]⟩
abbrev S8x6144 : Shape := ⟨2, ![8, 6144]⟩
abbrev S1x1024 : Shape := ⟨2, ![1, 1024]⟩
abbrev S1x1024x5656 : Shape := ⟨3, ![1, 1024, 5656]⟩
abbrev S8x2048 : Shape := ⟨2, ![8, 2048]⟩
abbrev S_ : Shape := ⟨0, ![]⟩
abbrev S1x1024x24 : Shape := ⟨3, ![1, 1024, 24]⟩

class Facts : Prop where
  slices_S8x6144_S8x2048_0_0 : S8x6144.Slices ![0, 0] S8x2048
  bcast_S_S8x2048 : S_.BroadcastsInDim S8x2048 (![] : Fin 0 → Fin S8x2048.rank)
  reducesTo_S8x2048_S_d0_1 : S8x2048.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  slices_S1x1024x5656_S1x1024x24_0_0_4096 : S1x1024x5656.Slices ![0, 0, 4096] S1x1024x24
  bcast_S_S1x1024x24 : S_.BroadcastsInDim S1x1024x24 (![] : Fin 0 → Fin S1x1024x24.rank)
  reducesTo_S1x1024x24_S_d0_1_2 : S1x1024x24.ReducesTo [0, 1, 2] S_

variable [Facts]

def fn {F : FTy → Type} [FloatOps F] (main_arg0 : FVec F S8x2048x1024 .f32) (main_arg1 : FVec F S8x6144 .f32) (main_arg2 : FVec F S1x1024 .f32) (main_arg3 : FVec F S1x1024x5656 .f32) : IVec S_ 1 :=
  let main_v0 : FVec F S8x2048 .f32 := (extractStridedSlice S8x2048 ![0, 0] · slices_S8x6144_S8x2048_0_0) main_arg1
  let main_v1 : FVec F S8x2048 .f32 := Host.absf main_v0
  let main_cst : FVec F S_ .f32 := constant S_ .f32 0x7F800000#32
  let main_v2 : FVec F S8x2048 .f32 := broadcastInDim S8x2048 ![] bcast_S_S8x2048 main_cst
  let main_v3 : IVec S8x2048 1 := cmpf .olt main_v1 main_v2
  let main_c : IVec S_ 1 := constantI S_ 1 1#1
  let main_v4 : IVec S_ 1 := (fun x v => Host.reduce IntOp.andi x v reducesTo_S8x2048_S_d0_1 h_S_) main_v3 main_c
  let main_v5 : FVec F S1x1024 .f32 := Host.absf main_arg2
  let main_cst_0 : FVec F S_ .f32 := constant S_ .f32 0x7F800000#32
  let main_v6 : FVec F S1x1024 .f32 := broadcastInDim S1x1024 ![] bcast_S_S1x1024 main_cst_0
  let main_v7 : IVec S1x1024 1 := cmpf .olt main_v5 main_v6
  let main_c_1 : IVec S_ 1 := constantI S_ 1 1#1
  let main_v8 : IVec S_ 1 := (fun x v => Host.reduce IntOp.andi x v reducesTo_S1x1024_S_d0_1 h_S_) main_v7 main_c_1
  let main_v9 : IVec S_ 1 := andi main_v4 main_v8
  let main_v10 : FVec F S1x1024x24 .f32 := (extractStridedSlice S1x1024x24 ![0, 0, 4096] · slices_S1x1024x5656_S1x1024x24_0_0_4096) main_arg3
  let main_v11 : FVec F S1x1024x24 .f32 := Host.absf main_v10
  let main_cst_2 : FVec F S_ .f32 := constant S_ .f32 0x7F800000#32
  let main_v12 : FVec F S1x1024x24 .f32 := broadcastInDim S1x1024x24 ![] bcast_S_S1x1024x24 main_cst_2
  let main_v13 : IVec S1x1024x24 1 := cmpf .olt main_v11 main_v12
  let main_c_3 : IVec S_ 1 := constantI S_ 1 1#1
  let main_v14 : IVec S_ 1 := (fun x v => Host.reduce IntOp.andi x v reducesTo_S1x1024x24_S_d0_1_2 h_S_) main_v13 main_c_3
  let main_v15 : IVec S_ 1 := andi main_v9 main_v14
  main_v15
-- ==== Pre_finite_scores.lean ====
abbrev S16384x512 : Shape := ⟨2, ![16384, 512]⟩
abbrev S1x8x513 : Shape := ⟨3, ![1, 8, 513]⟩
abbrev S1x512 : Shape := ⟨2, ![1, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1x8x513 : S_.BroadcastsInDim S1x8x513 (![] : Fin 0 → Fin S1x8x513.rank)
  reducesTo_S1x8x513_S_d0_1_2 : S1x8x513.ReducesTo [0, 1, 2] S_

variable [Facts]

def fn {F : FTy → Type} [FloatOps F] (main_arg0 : FVec F S16384x512 .f32) (main_arg1 : FVec F S16384x512 .f32) (main_arg2 : FVec F S16384x512 .f32) (main_arg3 : FVec F S1x8x513 .f32) (main_arg4 : FVec F S1x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1x8x513 .f32 := Host.absf main_arg3
  let main_cst_2 : FVec F S_ .f32 := constant S_ .f32 0x7F800000#32
  let main_v10 : FVec F S1x8x513 .f32 := broadcastInDim S1x8x513 ![] bcast_S_S1x8x513 main_cst_2
  let main_v11 : IVec S1x8x513 1 := cmpf .olt main_v9 main_v10
  let main_c_3 : IVec S_ 1 := constantI S_ 1 1#1
  let main_v12 : IVec S_ 1 := (fun x v => Host.reduce IntOp.andi x v reducesTo_S1x8x513_S_d0_1_2 h_S_) main_v11 main_c_3
  let main_v13 : IVec S_ 1 := andi main_v8 main_v12
  main_v13
-- ==== Kernel.lean ====
abbrev S16384x512 : Shape := ⟨2, ![16384, 512]⟩
abbrev S1x8x513 : Shape := ⟨3, ![1, 8, 513]⟩
abbrev S1x512 : Shape := ⟨2, ![1, 512]⟩
abbrev S8x513 : Shape := ⟨2, ![8, 513]⟩
abbrev S8x1 : Shape := ⟨2, ![8, 1]⟩
abbrev S8x511 : Shape := ⟨2, ![8, 511]⟩
abbrev S8x1024 : Shape := ⟨2, ![8, 1024]⟩
abbrev S8x769 : Shape := ⟨2, ![8, 769]⟩
abbrev S8x255 : Shape := ⟨2, ![8, 255]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S1x256x768 : Shape := ⟨3, ![1, 256, 768]⟩
abbrev S8x256x768 : Shape := ⟨3, ![8, 256, 768]⟩
abbrev S512 : Shape := ⟨1, ![512]⟩
abbrev S256x512 : Shape := ⟨2, ![256, 512]⟩
abbrev S256x64 : Shape := ⟨2, ![256, 64]⟩
abbrev S256x256 : Shape := ⟨2, ![256, 256]⟩
abbrev S1x256x256 : Shape := ⟨3, ![1, 256, 256]⟩
abbrev S512x512 : Shape := ⟨2, ![512, 512]⟩
abbrev S512x64 : Shape := ⟨2, ![512, 64]⟩
abbrev S1x256x512 : Shape := ⟨3, ![1, 256, 512]⟩
abbrev S768x512 : Shape := ⟨2, ![768, 512]⟩
abbrev S768x64 : Shape := ⟨2, ![768, 64]⟩

abbrev nBuf : Space → Nat
  | .hbm => 84
  | .vmem => 18
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1x8x513, .f32⟩
  | .hbm, ⟨4, _⟩ => ⟨S1x512, .f32⟩
  | .hbm, ⟨5, _⟩ => ⟨S16384x512, .bf16⟩
  | .hbm, ⟨6, _⟩ => ⟨S16384x512, .bf16⟩
  | .hbm, ⟨7, _⟩ => ⟨S16384x512, .bf16⟩
  | .hbm, ⟨8, _⟩ => ⟨S8x513, .f32⟩
  | .hbm, ⟨9, _⟩ => ⟨S8x1, .f32⟩
  | .hbm, ⟨10, _⟩ => ⟨S8x511, .f32⟩
  | .hbm, ⟨11, _⟩ => ⟨S8x513, .f32⟩
  | .hbm, ⟨12, _⟩ => ⟨S8x1024, .f32⟩
  | .hbm, ⟨13, _⟩ => ⟨S8x769, .f32⟩
  | .hbm, ⟨14, _⟩ => ⟨S8x255, .f32⟩
  | .hbm, ⟨15, _⟩ => ⟨S8x1024, .f32⟩
  | .hbm, ⟨16, _⟩ => ⟨S1x8x1x1024, .f32⟩
  | .hbm, ⟨17, _⟩ => ⟨S1x8x256x1024, .f32⟩
  | .hbm, ⟨18, _⟩ => ⟨S8x262144, .f32⟩
  | .hbm, ⟨19, _⟩ => ⟨S8x261888, .f32⟩
  | .hbm, ⟨20, _⟩ => ⟨S8x256x1023, .f32⟩
  | .hbm, ⟨21, _⟩ => ⟨S256, .i32⟩
  | .hbm, ⟨22, _⟩ => ⟨S256x1, .i32⟩
  | .hbm, ⟨23, _⟩ => ⟨S768, .i32⟩
  | .hbm, ⟨24, _⟩ => ⟨S1x768, .i32⟩
  | .hbm, ⟨25, _⟩ => ⟨S_, .i32⟩
  | .hbm, ⟨26, _⟩ => ⟨S_, .i32⟩
  | .hbm, ⟨27, _⟩ => ⟨S256x1, .i32⟩
  | .hbm, ⟨28, _⟩ => ⟨S256x1, .i32⟩
  | .hbm, ⟨29, _⟩ => ⟨S256x1, .i32⟩
  | .hbm, ⟨30, _⟩ => ⟨S_, .i32⟩
  | .hbm, ⟨31, _⟩ => ⟨S256x1, .i32⟩
  | .hbm, ⟨32, _⟩ => ⟨S256x1, .i1⟩
  | .hbm, ⟨33, _⟩ => ⟨S256x1, .i32⟩
  | .hbm, ⟨34, _⟩ => ⟨S256x1, .i32⟩
  | .hbm, ⟨35, _⟩ => ⟨S_, .i32⟩
  | .hbm, ⟨36, _⟩ => ⟨S256x1, .i32⟩
  | .hbm, ⟨37, _⟩ => ⟨S256x1, .i1⟩
  | .hbm, ⟨38, _⟩ => ⟨S256x1, .i1⟩
  | .hbm, ⟨39, _⟩ => ⟨S_, .i32⟩
  | .hbm, ⟨40, _⟩ => ⟨S256x1, .i32⟩
  | .hbm, ⟨41, _⟩ => ⟨S256x1, .i32⟩
  | .hbm, ⟨42, _⟩ => ⟨S256x1, .i32⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S_, .i32⟩
  | .hbm, ⟨47, _⟩ => ⟨S_, .i32⟩
  | .hbm, ⟨48, _⟩ => ⟨S1x768, .i32⟩
  | .hbm, ⟨49, _⟩ => ⟨S1x768, .i32⟩
  | .hbm, ⟨50, _⟩ => ⟨S1x768, .i32⟩
  | .hbm, ⟨51, _⟩ => ⟨S_, .i32⟩
  | .hbm, ⟨52, _⟩ => ⟨S1x768, .i32⟩
  | .hbm, ⟨53, _⟩ => ⟨S1x768, .i1⟩
  | .hbm, ⟨54, _⟩ => ⟨S1x768, .i32⟩
  | .hbm, ⟨55, _⟩ => ⟨S1x768, .i32⟩
  | .hbm, ⟨56, _⟩ => ⟨S_, .i32⟩
  | .hbm, ⟨57, _⟩ => ⟨S1x768, .i32⟩
  | .hbm, ⟨58, _⟩ => ⟨S1x768, .i1⟩
  | .hbm, ⟨59, _⟩ => ⟨S1x768, .i1⟩
  | .hbm, ⟨60, _⟩ => ⟨S_, .i32⟩
  | .hbm, ⟨61, _⟩ => ⟨S1x768, .i32⟩
  | .hbm, ⟨62, _⟩ => ⟨S1x768, .i32⟩
  | .hbm, ⟨63, _⟩ => ⟨S1x768, .i32⟩
  | .hbm, ⟨64, _⟩ => ⟨S256x768, .i32⟩
  | .hbm, ⟨65, _⟩ => ⟨S256x768, .i32⟩
  | .hbm, ⟨66, _⟩ => ⟨S256x768, .i32⟩
  | .hbm, ⟨67, _⟩ => ⟨S_, .i32⟩
  | .hbm, ⟨68, _⟩ => ⟨S256x768, .i32⟩
  | .hbm, ⟨69, _⟩ => ⟨S256x768, .i1⟩
  | .hbm, ⟨70, _⟩ => ⟨S_, .i32⟩
  | .hbm, ⟨71, _⟩ => ⟨S256x768, .i32⟩
  | .hbm, ⟨72, _⟩ => ⟨S256x768, .i1⟩
  | .hbm, ⟨73, _⟩ => ⟨S256x768, .i1⟩
  | .hbm, ⟨74, _⟩ => ⟨S1x256x768, .i1⟩
  | .hbm, ⟨75, _⟩ => ⟨S8x256x768, .f32⟩
  | .hbm, ⟨76, _⟩ => ⟨S_, .f32⟩
  | .hbm, ⟨77, _⟩ => ⟨S_, .f32⟩
  | .hbm, ⟨78, _⟩ => ⟨S8x256x768, .i1⟩
  | .hbm, ⟨79, _⟩ => ⟨S8x256x768, .f32⟩
  | .hbm, ⟨80, _⟩ => ⟨S8x256x768, .f32⟩
  | .hbm, ⟨81, _⟩ => ⟨S512, .f32⟩
  | .hbm, ⟨82, _⟩ => ⟨S1x512, .f32⟩
  | .hbm, ⟨83, _⟩ => ⟨S16384x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S8x256x768, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v18 : Ref sig .tc := ⟨.hbm, 42, rfl⟩
abbrev main_c_0 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_c_2 : Ref sig .tc := ⟨.hbm, 67, rfl⟩
abbrev main_v25 : Ref sig .tc := ⟨.hbm, 68, rfl⟩
abbrev main_v26 : Ref sig .tc := ⟨.hbm, 69, rfl⟩
abbrev main_c_3 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .sge arg1 c2_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c0_i32_1 : BitVec 32 := 0#32
  let c0_i32_2 : BitVec 32 := 0#32
  ![v3.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S16384x512 : Shape := ⟨2, ![16384, 512]⟩
abbrev S1x8x513 : Shape := ⟨3, ![1, 8, 513]⟩
abbrev S1x512 : Shape := ⟨2, ![1, 512]⟩
abbrev S8x2048x8x64 : Shape := ⟨4, ![8, 2048, 8, 64]⟩
abbrev S8x513 : Shape := ⟨2, ![8, 513]⟩
abbrev S32 : Shape := ⟨1, ![32]⟩
abbrev S32x1 : Shape := ⟨2, ![32, 1]⟩
abbrev S_ : Shape := ⟨0, ![]⟩
abbrev S576 : Shape := ⟨1, ![576]⟩
abbrev S1x576 : Shape := ⟨2, ![1, 576]⟩
abbrev S32x576 : Shape := ⟨2, ![32, 576]⟩
abbrev S8x2560x8x64 : Shape := ⟨4, ![8, 2560, 8, 64]⟩
abbrev S32x576x1 : Shape := ⟨3, ![32, 576, 1]⟩
abbrev S8x32x576x8x64 : Shape := ⟨5, ![8, 32, 576, 8, 64]⟩
abbrev S8x32x64x8x64 : Shape := ⟨5, ![8, 32, 64, 8, 64]⟩
abbrev S8x32x8x64x576 : Shape := ⟨5, ![8, 32, 8, 64, 576]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S1x32x1x1x576 : Shape := ⟨5, ![1, 32, 1, 1, 576]⟩
abbrev S1x1x8x64x576 : Shape := ⟨5, ![1, 1, 8, 64, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩
abbrev S8x2048x512 : Shape := ⟨3, ![8, 2048, 512]⟩
abbrev S512 : Shape := ⟨1, ![512]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 129
  | .vmem => 0
  | .smem => 0
  | _ => 0

abbrev hbmTy0_0 (i : Nat) : BufTy := match i % 128 with
  | 0 => ⟨S16384x512, .f32⟩
  | 1 => ⟨S16384x512, .f32⟩
  | 2 => ⟨S16384x512, .f32⟩
  | 3 => ⟨S1x8x513, .f32⟩
  | 4 => ⟨S1x512, .f32⟩
  | 5 => ⟨S8x2048x8x64, .f32⟩
  | 6 => ⟨S8x2048x8x64, .f32⟩
  | 7 => ⟨S8x2048x8x64, .f32⟩
  | 8 => ⟨S8x513, .f32⟩
  | 9 => ⟨S32, .i32⟩
  | 10 => ⟨S32x1, .i32⟩
  | 11 => ⟨S_, .i32⟩
  | 12 => ⟨S32x1, .i32⟩
  | 13 => ⟨S32x1, .i32⟩
  | 14 => ⟨S576, .i32⟩
  | 15 => ⟨S1x576, .i32⟩
  | 16 => ⟨S32x576, .i32⟩
  | 17 => ⟨S32x576, .i32⟩
  | 18 => ⟨S32x576, .i32⟩
  | 19 => ⟨S_, .i32⟩
  | 20 => ⟨S_, .f32⟩
  | 21 => ⟨S8x2560x8x64, .f32⟩
  | 22 => ⟨S_, .i32⟩
  | 23 => ⟨S_, .f32⟩
  | 24 => ⟨S8x2560x8x64, .f32⟩
  | 25 => ⟨S_, .i32⟩
  | 26 => ⟨S32x576, .i32⟩
  | 27 => ⟨S32x576, .i1⟩
  | 28 => ⟨S_, .i32⟩
  | 29 => ⟨S32x576, .i32⟩
  | 30 => ⟨S32x576, .i32⟩
  | 31 => ⟨S32x576, .i32⟩
  | 32 => ⟨S32x576x1, .i32⟩
  | 33 => ⟨S8x32x576x8x64, .f32⟩
  | 34 => ⟨S_, .i32⟩
  | 35 => ⟨S32x576, .i32⟩
  | 36 => ⟨S32x576, .i1⟩
  | 37 => ⟨S_, .i32⟩
  | 38 => ⟨S32x576, .i32⟩
  | 39 => ⟨S32x576, .i32⟩
  | 40 => ⟨S32x576, .i32⟩
  | 41 => ⟨S32x576x1, .i32⟩
  | 42 => ⟨S8x32x576x8x64, .f32⟩
  | 43 => ⟨S8x32x64x8x64, .f32⟩
  | 44 => ⟨S8x32x8x64x576, .f32⟩
  | 45 => ⟨S_, .f32⟩
  | 46 => ⟨S8x32x8x64x576, .f32⟩
  | 47 => ⟨S8x32x8x64x576, .f32⟩
  | 48 => ⟨S64, .i32⟩
  | 49 => ⟨S64x1, .i32⟩
  | 50 => ⟨S_, .i32⟩
  | 51 => ⟨S64x1, .i32⟩
  | 52 => ⟨S64x1, .i32⟩
  | 53 => ⟨S576, .i32⟩
  | 54 => ⟨S1x576, .i32⟩
  | 55 => ⟨S64x576, .i32⟩
  | 56 => ⟨S64x576, .i32⟩
  | 57 => ⟨S64x576, .i32⟩
  | 58 => ⟨S_, .i32⟩
  | 59 => ⟨S_, .i32⟩
  | 60 => ⟨S_, .i32⟩
  | 61 => ⟨S64x576, .i32⟩
  | 62 => ⟨S64x576, .i32⟩
  | 63 => ⟨S_, .i32⟩
  | 64 => ⟨S64x576, .i32⟩
  | 65 => ⟨S64x576, .i32⟩
  | 66 => ⟨S_, .i32⟩
  | 67 => ⟨S64x576, .i32⟩
  | 68 => ⟨S64x576, .i32⟩
  | 69 => ⟨S_, .i32⟩
  | 70 => ⟨S64x576, .i32⟩
  | 71 => ⟨S64x576, .i1⟩
  | 72 => ⟨S_, .i32⟩
  | 73 => ⟨S64x576, .i32⟩
  | 74 => ⟨S64x576, .i32⟩
  | 75 => ⟨S64x576, .i32⟩
  | 76 => ⟨S64x576x1, .i32⟩
  | 77 => ⟨S8x64x576, .f32⟩
  | 78 => ⟨S_, .i32⟩
  | 79 => ⟨S32x576, .i32⟩
  | 80 => ⟨S32x576, .i32⟩
  | 81 => ⟨S_, .i32⟩
  | 82 => ⟨S32x576, .i32⟩
  | 83 => ⟨S32x576, .i1⟩
  | 84 => ⟨S1x32x1x1x576, .i1⟩
  | 85 => ⟨S1x1x8x64x576, .f32⟩
  | 86 => ⟨S8x32x8x64x576, .f32⟩
  | 87 => ⟨S8x32x8x64x576, .f32⟩
  | 88 => ⟨S_, .f32⟩
  | 89 => ⟨S_, .f32⟩
  | 90 => ⟨S8x32x8x64x576, .i1⟩
  | 91 => ⟨S8x32x8x64x576, .f32⟩
  | 92 => ⟨S8x32x8x64x576, .f32⟩
  | 93 => ⟨S_, .f32⟩
  | 94 => ⟨S8x32x8x64, .f32⟩
  | 95 => ⟨S_, .f32⟩
  | 96 => ⟨S8x32x8x64, .f32⟩
  | 97 => ⟨S8x32x8x64, .f32⟩
  | 98 => ⟨S8x32x8x64x1, .f32⟩
  | 99 => ⟨S8x32x8x64x576, .f32⟩
  | 100 => ⟨S8x32x8x64x576, .f32⟩
  | 101 => ⟨S8x32x8x64x576, .f32⟩
  | 102 => ⟨S_, .f32⟩
  | 103 => ⟨S8x32x8x64, .f32⟩
  | 104 => ⟨S8x32x8x64x1, .f32⟩
  | 105 => ⟨S8x32x8x64x576, .f32⟩
  | 106 => ⟨S8x32x8x64x576, .f32⟩
  | 107 => ⟨S8x32x8x64x64, .f32⟩
  | 108 => ⟨S8x32x64x8x64, .f32⟩
  | 109 => ⟨S8x2048x512, .f32⟩
  | 110 => ⟨S512, .f32⟩
  | 111 => ⟨S8x2048x512, .f32⟩
  | 112 => ⟨S_, .f32⟩
  | 113 => ⟨S8x2048, .f32⟩
  | 114 => ⟨S8x2048x1, .f32⟩
  | 115 => ⟨S_, .f32⟩
  | 116 => ⟨S8x2048x1, .f32⟩
  | 117 => ⟨S8x2048x1, .f32⟩
  | 118 => ⟨S_, .f32⟩
  | 119 => ⟨S8x2048x1, .f32⟩
  | 120 => ⟨S8x2048x1, .f32⟩
  | 121 => ⟨S8x2048x1, .f32⟩
  | 122 => ⟨S8x2048x512, .f32⟩
  | 123 => ⟨S8x2048x512, .f32⟩
  | 124 => ⟨S1x1x512, .f32⟩
  | 125 => ⟨S8x2048x512, .f32⟩
  | 126 => ⟨S8x2048x512, .f32⟩
  | 127 => ⟨S16384x512, .f32⟩
  | _ => ⟨S16384x512, .f32⟩

abbrev hbmTy0_1 (i : Nat) : BufTy := match i % 128 with
  | 0 => ⟨S16384x512, .bf16⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call0_v0 : Ref sig .tc := ⟨.hbm, 20, rfl⟩
abbrev main_v13 : Ref sig .tc := ⟨.hbm, 21, rfl⟩
abbrev main_c_1 : Ref sig .tc := ⟨.hbm, 22, rfl⟩
abbrev main_call1_v0 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_7 : Ref sig .tc := ⟨.hbm, 58, rfl⟩
abbrev main_c_8 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_12 : Ref sig .tc := ⟨.hbm, 78, rfl⟩
abbrev main_v52 : Ref sig .tc := ⟨.hbm, 79, rfl⟩
abbrev main_v53 : Ref sig .tc := ⟨.hbm, 80, rfl⟩
abbrev main_c_13 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_cst_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_18 : Ref sig .tc := ⟨.hbm, 112, rfl⟩
abbrev main_v77 : Ref sig .tc := ⟨.hbm, 113, rfl⟩
abbrev main_v78 : Ref sig .tc := ⟨.hbm, 114, rfl⟩
abbrev main_cst_19 : Ref sig .tc := ⟨.hbm, 115, rfl⟩
abbrev main_v79 : Ref sig .tc := ⟨.hbm, 116, rfl⟩
abbrev main_v80 : Ref sig .tc := ⟨.hbm, 117, rfl⟩
abbrev main_cst_20 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x6144 : Shape := ⟨2, ![8, 6144]⟩
abbrev S1x1024 : Shape := ⟨2, ![1, 1024]⟩
abbrev S1x1024x5656 : Shape := ⟨3, ![1, 1024, 5656]⟩
abbrev S8x6x1024 : Shape := ⟨3, ![8, 6, 1024]⟩
abbrev S1024x5656 : Shape := ⟨2, ![1024, 5656]⟩
abbrev S1024x4096 : Shape := ⟨2, ![1024, 4096]⟩
abbrev S1024x1536 : Shape := ⟨2, ![1024, 1536]⟩
abbrev S1024x5632 : Shape := ⟨2, ![1024, 5632]⟩
abbrev S1024x24 : Shape := ⟨2, ![1024, 24]⟩
abbrev S_ : Shape := ⟨0, ![]⟩
abbrev S1024x128 : Shape := ⟨2, ![1024, 128]⟩
abbrev S1024 : Shape := ⟨1, ![1024]⟩
abbrev S16384x1536 : Shape := ⟨2, ![16384, 1536]⟩
abbrev S16384x2560 : Shape := ⟨2, ![16384, 2560]⟩
abbrev S16384x512 : Shape := ⟨2, ![16384, 512]⟩
abbrev S16384x128 : Shape := ⟨2, ![16384, 128]⟩
abbrev S1x512x1024 : Shape := ⟨3, ![1, 512, 1024]⟩
abbrev S1x6x1024 : Shape := ⟨3, ![1, 6, 1024]⟩
abbrev S512x1536 : Shape := ⟨2, ![512, 1536]⟩
abbrev S512x2560 : Shape := ⟨2, ![512, 2560]⟩
abbrev S512x512 : Shape := ⟨2, ![512, 512]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x2560 : Shape := ⟨2, ![1024, 2560]⟩
abbrev S1024x512 : Shape := ⟨2, ![1024, 512]⟩

abbrev nBuf : Space → Nat
  | .hbm => 26
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024x5656, .f32⟩
  | .hbm, ⟨4, _⟩ => ⟨S8x6x1024, .f32⟩
  | .hbm, ⟨5, _⟩ => ⟨S1024x5656, .f32⟩
  | .hbm, ⟨6, _⟩ => ⟨S1024x4096, .f32⟩
  | .hbm, ⟨7, _⟩ => ⟨S1024x1536, .f32⟩
  | .hbm, ⟨8, _⟩ => ⟨S1024x5632, .f32⟩
  | .hbm, ⟨9, _⟩ => ⟨S1024x5632, .bf16⟩
  | .hbm, ⟨10, _⟩ => ⟨S1024x24, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .f32⟩
  | .hbm, ⟨17, _⟩ => ⟨S1024x128, .bf16⟩
  | .hbm, ⟨18, _⟩ => ⟨S1024, .f32⟩
  | .hbm, ⟨19, _⟩ => ⟨S1x1024, .f32⟩
  | .hbm, ⟨20, _⟩ => ⟨S16384x1536, .bf16⟩
  | .hbm, ⟨21, _⟩ => ⟨S16384x2560, .bf16⟩
  | .hbm, ⟨22, _⟩ => ⟨S16384x512, .bf16⟩
  | .hbm, ⟨23, _⟩ => ⟨S16384x512, .bf16⟩
  | .hbm, ⟨24, _⟩ => ⟨S16384x512, .bf16⟩
  | .hbm, ⟨25, _⟩ => ⟨S16384x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x5632, .bf16⟩
  | .local _ .vmem, ⟨6, _⟩ => ⟨S1024x128, .bf16⟩
  | .local _ .vmem, ⟨7, _⟩ => ⟨S1024x128, .bf16⟩
  | .local _ .vmem, ⟨8, _⟩ => ⟨S512x1536, .bf16⟩
  | .local _ .vmem, ⟨9, _⟩ => ⟨S512x1536, .bf16⟩
  | .local _ .vmem, ⟨10, _⟩ => ⟨S512x2560, .bf16⟩
  | .local _ .vmem, ⟨11, _⟩ => ⟨S512x2560, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x128, .f32⟩
  | .local _ .vmem, ⟨19, _⟩ => ⟨S512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2560 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== Reference2Ideal.lean ====
abbrev S8x2048x1024 : Shape := ⟨3, ![8, 2048, 1024]⟩
abbrev S8x6144 : Shape := ⟨2, ![8, 6144]⟩
abbrev S1x1024 : Shape := ⟨2, ![1, 1024]⟩
abbrev S1x1024x5656 : Shape := ⟨3, ![1, 1024, 5656]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5656 : Shape := ⟨2, ![1024, 5656]⟩
abbrev S8x2048x5656 : Shape := ⟨3, ![8, 2048, 5656]⟩
abbrev S8x2048x1536 : Shape := ⟨3, ![8, 2048, 1536]⟩
abbrev S8x2048x2560 : Shape := ⟨3, ![8, 2048, 2560]⟩
abbrev S8x2048x24 : Shape := ⟨3, ![8, 2048, 24]⟩
abbrev S8x2048x512 : Shape := ⟨3, ![8, 2048, 512]⟩
abbrev S16384x1536 : Shape := ⟨2, ![16384, 1536]⟩
abbrev S16384x2560 : Shape := ⟨2, ![16384, 2560]⟩
abbrev S16384x512 : Shape := ⟨2, ![16384, 512]⟩
abbrev S16384x24 : Shape := ⟨2, ![16384, 24]⟩
abbrev S16384x128 : Shape := ⟨2, ![16384, 128]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1x1024, .f32⟩
  | .hbm, ⟨3, _⟩ => ⟨S1x1024x5656, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x1x1024, .f32⟩
  | .hbm, ⟨30, _⟩ => ⟨S8x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S1024x5656, .f32⟩
  | .hbm, ⟨36, _⟩ => ⟨S8x2048x5656, .f32⟩
  | .hbm, ⟨37, _⟩ => ⟨S8x2048x1536, .f32⟩
  | .hbm, ⟨38, _⟩ => ⟨S8x2048x2560, .f32⟩
  | .hbm, ⟨39, _⟩ => ⟨S8x2048x24, .f32⟩
  | .hbm, ⟨40, _⟩ => ⟨S8x2048x512, .f32⟩
  | .hbm, ⟨41, _⟩ => ⟨S8x2048x512, .f32⟩
  | .hbm, ⟨42, _⟩ => ⟨S8x2048x512, .f32⟩
  | .hbm, ⟨43, _⟩ => ⟨S_, .f32⟩
  | .hbm, ⟨44, _⟩ => ⟨S8x2048x512, .f32⟩
  | .hbm, ⟨45, _⟩ => ⟨S8x2048x512, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x2048x512, .f32⟩
  | .hbm, ⟨50, _⟩ => ⟨S8x2048x512, .f32⟩
  | .hbm, ⟨51, _⟩ => ⟨S8x2048x1536, .bf16⟩
  | .hbm, ⟨52, _⟩ => ⟨S16384x1536, .bf16⟩
  | .hbm, ⟨53, _⟩ => ⟨S8x2048x2560, .bf16⟩
  | .hbm, ⟨54, _⟩ => ⟨S16384x2560, .bf16⟩
  | .hbm, ⟨55, _⟩ => ⟨S8x2048x512, .bf16⟩
  | .hbm, ⟨56, _⟩ => ⟨S16384x512, .bf16⟩
  | .hbm, ⟨57, _⟩ => ⟨S8x2048x512, .bf16⟩
  | .hbm, ⟨58, _⟩ => ⟨S16384x512, .bf16⟩
  | .hbm, ⟨59, _⟩ => ⟨S8x2048x512, .bf16⟩
  | .hbm, ⟨60, _⟩ => ⟨S16384x512, .bf16⟩
  | .hbm, ⟨61, _⟩ => ⟨S16384x24, .f32⟩
  | .hbm, ⟨62, _⟩ => ⟨S_, .i32⟩
  | .hbm, ⟨63, _⟩ => ⟨S_, .f32⟩
  | .hbm, ⟨64, _⟩ => ⟨S16384x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_c : Ref sig .tc := ⟨.hbm, 62, rfl⟩
abbrev main_call0_v0 : Ref sig .tc := ⟨.hbm, 63, rfl⟩
abbrev main_v52 : Ref sig .tc := ⟨.hbm, 64, rfl⟩

abbrev nD : Nat := 1
abbrev τ : Topo := Topo.v7x

variable {F : FTy → Type} [FloatOps F]
-- ==== Kernel3.lean ====
abbrev S16384x1536 : Shape := ⟨2, ![16384, 1536]⟩
abbrev S16384x512 : Shape := ⟨2, ![16384, 512]⟩
abbrev S8x2048x1024 : Shape := ⟨3, ![8, 2048, 1024]⟩
abbrev S8x6144 : Shape := ⟨2, ![8, 6144]⟩
abbrev S1x2048x1024 : Shape := ⟨3, ![1, 2048, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S8x6x1024 : Shape := ⟨3, ![8, 6, 1024]⟩
abbrev S2048x1024 : Shape := ⟨2, ![2048, 1024]⟩
abbrev S1024x32 : Shape := ⟨2, ![1024, 32]⟩
abbrev S32x1024 : Shape := ⟨2, ![32, 1024]⟩
abbrev S1024x4 : Shape := ⟨2, ![1024, 4]⟩
abbrev S4x1024 : Shape := ⟨2, ![4, 1024]⟩
abbrev S_ : Shape := ⟨0, ![]⟩
abbrev S12x1024 : Shape := ⟨2, ![12, 1024]⟩
abbrev S48x1024 : Shape := ⟨2, ![48, 1024]⟩
abbrev S32 : Shape := ⟨1, ![32]⟩
abbrev S4 : Shape := ⟨1, ![4]⟩
abbrev S12 : Shape := ⟨1, ![12]⟩
abbrev S48 : Shape := ⟨1, ![48]⟩
abbrev S1536x1024 : Shape := ⟨2, ![1536, 1024]⟩
abbrev S512x1024 : Shape := ⟨2, ![512, 1024]⟩
abbrev S1024 : Shape := ⟨1, ![1024]⟩
abbrev S48x1 : Shape := ⟨2, ![48, 1]⟩
abbrev S48x256 : Shape := ⟨2, ![48, 256]⟩
abbrev S16384x1024 : Shape := ⟨2, ![16384, 1024]⟩
abbrev S8x16384 : Shape := ⟨2, ![8, 16384]⟩
abbrev S16384x128 : Shape := ⟨2, ![16384, 128]⟩
abbrev S32x128 : Shape := ⟨2, ![32, 128]⟩
abbrev S256x1536 : Shape := ⟨2, ![256, 1536]⟩
abbrev S256x512 : Shape := ⟨2, ![256, 512]⟩
abbrev S1x256x1024 : Shape := ⟨3, ![1, 256, 1024]⟩
abbrev S1x6x1024 : Shape := ⟨3, ![1, 6, 1024]⟩
abbrev S256x1024 : Shape := ⟨2, ![256, 1024]⟩
abbrev S8x256 : Shape := ⟨2, ![8, 256]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S1x256 : Shape := ⟨2, ![1, 256]⟩
abbrev S32x256 : Shape := ⟨2, ![32, 256]⟩
abbrev S256x256 : Shape := ⟨2, ![256, 256]⟩
abbrev S32x1 : Shape := ⟨2, ![32, 1]⟩
abbrev S120x256 : Shape := ⟨2, ![120, 256]⟩
abbrev S128x256 : Shape := ⟨2, ![128, 256]⟩

abbrev nBuf : Space → Nat
  | .hbm => 42
  | .vmem => 24
  | .smem => 0
  | _ => 0

abbrev bufTy : (tb : Table) → Fin (tcTables nBuf tb) → BufTy
  | .hbm, ⟨0, _⟩ => ⟨S16384x1536, .f32⟩
  | .hbm, ⟨1, _⟩ => ⟨S16384x512, .f32⟩
  | .hbm, ⟨2, _⟩ => ⟨S8x2048x1024, .f32⟩
  | .hbm, ⟨3, _⟩ => ⟨S8x6144, .f32⟩
  | .hbm, ⟨4, _⟩ => ⟨S1x2048x1024, .f32⟩
  | .hbm, ⟨5, _⟩ => ⟨S1x1024, .f32⟩
  | .hbm, ⟨6, _⟩ => ⟨S1x1024x4, .f32⟩
  | .hbm, ⟨7, _⟩ => ⟨S1x4, .f32⟩
  | .hbm, ⟨8, _⟩ => ⟨S1x1024x32, .f32⟩
  | .hbm, ⟨9, _⟩ => ⟨S1x32, .f32⟩
  | .hbm, ⟨10, _⟩ => ⟨S8x6x1024, .f32⟩
  | .hbm, ⟨11, _⟩ => ⟨S2048x1024, .f32⟩
  | .hbm, ⟨12, _⟩ => ⟨S2048x1024, .bf16⟩
  | .hbm, ⟨13, _⟩ => ⟨S1024x32, .f32⟩
  | .hbm, ⟨14, _⟩ => ⟨S32x1024, .f32⟩
  | .hbm, ⟨15, _⟩ => ⟨S1024x4, .f32⟩
  | .hbm, ⟨16, _⟩ => ⟨S4x1024, .f32⟩
  | .hbm, ⟨17, _⟩ => ⟨S_, .f32⟩
  | .hbm, ⟨18, _⟩ => ⟨S12x1024, .f32⟩
  | .hbm, ⟨19, _⟩ => ⟨S48x1024, .f32⟩
  | .hbm, ⟨20, _⟩ => ⟨S48x1024, .bf16⟩
  | .hbm, ⟨21, _⟩ => ⟨S48x1024, .f32⟩
  | .hbm, ⟨22, _⟩ => ⟨S48x1024, .f32⟩
  | .hbm, ⟨23, _⟩ => ⟨S48x1024, .bf16⟩
  | .hbm, ⟨24, _⟩ => ⟨S32, .f32⟩
  | .hbm, ⟨25, _⟩ => ⟨S4, .f32⟩
  | .hbm, ⟨26, _⟩ => ⟨S_, .f32⟩
  | .hbm, ⟨27, _⟩ => ⟨S12, .f32⟩
  | .hbm, ⟨28, _⟩ => ⟨S48, .f32⟩
  | .hbm, ⟨29, _⟩ => ⟨S16384x1536, .bf16⟩
  | .hbm, ⟨30, _⟩ => ⟨S16384x512, .bf16⟩
  | .hbm, ⟨31, _⟩ => ⟨S1536x1024, .bf16⟩
  | .hbm, ⟨32, _⟩ => ⟨S512x1024, .bf16⟩
  | .hbm, ⟨33, _⟩ => ⟨S1024, .f32⟩
  | .hbm, ⟨34, _⟩ => ⟨S1x1024, .f32⟩
  | .hbm, ⟨35, _⟩ => ⟨S48x1, .f32⟩
  | .hbm, ⟨36, _⟩ => ⟨S48x256, .f32⟩
  | .hbm, ⟨37, _⟩ => ⟨S16384x1024, .f32⟩
  | .hbm, ⟨38, _⟩ => ⟨S16384x1024, .f32⟩
  | .hbm, ⟨39, _⟩ => ⟨S8x16384, .i32⟩
  | .hbm, ⟨40, _⟩ => ⟨S16384x128, .f32⟩
  | .hbm, ⟨41, _⟩ => ⟨S32x128, .f32⟩
  | .local _ .vmem, ⟨0, _⟩ => ⟨S256x1536, .bf16⟩
  | .local _ .vmem, ⟨1, _⟩ => ⟨S256x1536, .bf16⟩
  | .local _ .vmem, ⟨2, _⟩ => ⟨S256x512, .bf16⟩
  | .local _ .vmem, ⟨3, _⟩ => ⟨S256x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x6x1024, .f32⟩
  | .local _ .vmem, ⟨7, _⟩ => ⟨S1x6x1024, .f32⟩
  | .local _ .vmem, ⟨8, _⟩ => ⟨S1536x1024, .bf16⟩
  | .local _ .vmem, ⟨9, _⟩ => ⟨S512x1024, .bf16⟩
  | .local _ .vmem, ⟨10, _⟩ => ⟨S1x1024, .f32⟩
  | .local _ .vmem, ⟨11, _⟩ => ⟨S48x1024, .bf16⟩
  | .local _ .vmem, ⟨12, _⟩ => ⟨S48x1024, .bf16⟩
  | .local _ .vmem, ⟨13, _⟩ => ⟨S48x256, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S8x256, .i32⟩
  | .local _ .vmem, ⟨19, _⟩ => ⟨S8x256, .i32⟩
  | .local _ .vmem, ⟨20, _⟩ => ⟨S256x128, .f32⟩
  | .local _ .vmem, ⟨21, _⟩ => ⟨S256x128, .f32⟩
  | .local _ .vmem, ⟨22, _⟩ => ⟨S32x128, .f32⟩
  | .local _ .vmem, ⟨23, _⟩ => ⟨S32x128, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev main_v25_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x256 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Kernel3Ideal.lean ====
variable {F : FTy → Type} [FloatOps F]
-- ==== Reference3Ideal.lean ====
abbrev S16384x1536 : Shape := ⟨2, ![16384, 1536]⟩
abbrev S16384x512 : Shape := ⟨2, ![16384, 512]⟩
abbrev S8x2048x1024 : Shape := ⟨3, ![8, 2048, 1024]⟩
abbrev S8x6144 : Shape := ⟨2, ![8, 6144]⟩
abbrev S1x2048x1024 : Shape := ⟨3, ![1, 2048, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S8x1x6144 : Shape := ⟨3, ![8, 1, 6144]⟩
abbrev S8x1x1024 : Shape := ⟨3, ![8, 1, 1024]⟩
abbrev S8x2048x1536 : Shape := ⟨3, ![8, 2048, 1536]⟩
abbrev S8x2048x512 : Shape := ⟨3, ![8, 2048, 512]⟩
abbrev S8x2048x2048 : Shape := ⟨3, ![8, 2048, 2048]⟩
abbrev S2048x1024 : Shape := ⟨2, ![2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1536, .f32⟩
  | .hbm, ⟨1, _⟩ => ⟨S16384x512, .f32⟩
  | .hbm, ⟨2, _⟩ => ⟨S8x2048x1024, .f32⟩
  | .hbm, ⟨3, _⟩ => ⟨S8x6144, .f32⟩
  | .hbm, ⟨4, _⟩ => ⟨S1x2048x1024, .f32⟩
  | .hbm, ⟨5, _⟩ => ⟨S1x1024, .f32⟩
  | .hbm, ⟨6, _⟩ => ⟨S1x1024x4, .f32⟩
  | .hbm, ⟨7, _⟩ => ⟨S1x4, .f32⟩
  | .hbm, ⟨8, _⟩ => ⟨S1x1024x32, .f32⟩
  | .hbm, ⟨9, _⟩ => ⟨S1x32, .f32⟩
  | .hbm, ⟨10, _⟩ => ⟨S8x1x6144, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x2048x1536, .f32⟩
  | .hbm, ⟨18, _⟩ => ⟨S8x2048x512, .f32⟩
  | .hbm, ⟨19, _⟩ => ⟨S8x2048x2048, .f32⟩
  | .hbm, ⟨20, _⟩ => ⟨S2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S1024, .f32⟩
  | .hbm, ⟨26, _⟩ => ⟨S8x2048x1024, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x1, .f32⟩
  | .hbm, ⟨37, _⟩ => ⟨S8x2048x1024, .f32⟩
  | .hbm, ⟨38, _⟩ => ⟨S8x2048x1024, .f32⟩
  | .hbm, ⟨39, _⟩ => ⟨S1x1x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S16384x1024, .f32⟩
  | .hbm, ⟨50, _⟩ => ⟨S16384x1024, .f32⟩
  | _, _ => ⟨S16384x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]
-- ==== Kernel4.lean ====
abbrev S8x1024 : Shape := ⟨2, ![8, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1x6144, .f32⟩
  | .hbm, ⟨6, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S8x1024 : Shape := ⟨2, ![8, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x6144, .f32⟩
  | .hbm, ⟨2, _⟩ => ⟨S1x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x6144, .f32⟩
  | .hbm, ⟨13, _⟩ => ⟨S8x6144, .f32⟩
  | .hbm, ⟨14, _⟩ => ⟨S6144, .f32⟩
  | .hbm, ⟨15, _⟩ => ⟨S1x6144, .f32⟩
  | .hbm, ⟨16, _⟩ => ⟨S8x6144, .f32⟩
  | .hbm, ⟨17, _⟩ => ⟨S8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.AttnOut.lean ====
module

public import proofs.«01_k».proof.Proof.Gen.KernelIdeal.Value

/-!
# The attention call's block of results, as a term

What one grid point stores, written with one function for a head: `head n` is the text every head of every one of
the three bodies (256, 512 or 768 keys) repeats, `Att n` puts the eight heads side by side and normalises the rows.
`out_A`, `out_B`, `out_C` say that a point's block is `Att` of the point's input blocks.
-/

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F] [Named F]

/-- `[n, 512]`: the keys (or values) a body sees, all heads side by side. -/
abbrev SKey (n : ℕ) : Shape := ⟨2, ![n, 512]⟩
/-- `[n, 64]`: one head's keys. -/
abbrev SKeyH (n : ℕ) : Shape := ⟨2, ![n, 64]⟩
/-- `[256, n]`: one head's scores. -/
abbrev SSc (n : ℕ) : Shape := ⟨2, ![256, n]⟩
/-- `[1, 256, n]`: one head's part of the bias table. -/
abbrev SBias (n : ℕ) : Shape := ⟨3, ![1, 256, n]⟩

/-- What the operations of a head over `n` keys, the last `n` columns of the 768 of the bias table, ask of `n`. -/
structure Width (n lo : ℕ) : Prop where
  red : (SSc n).Reduces [1] S256
  bc : S256x1.Broadcasts (SSc n)
  cast : (SBias n).ShapeCasts (SSc n)
  key : ∀ h : Fin 8, (SKey n).Slices ![0, 64 * h.val] (SKeyH n)
  qry : ∀ (h : Fin 8) (a : Fin 2), (![0, 64 * h.val] : Fin 2 → ℕ) a + S256x64.size a ≤ S256x512.size a
  bia : ∀ (h : Fin 8) (a : Fin 3), (![h.val, 0, lo] : Fin 3 → ℕ) a + (SBias n).size a ≤ S8x256x768.size a

/-- One head's scores in base two. -/
def score {n lo : ℕ} (_w : Width n lo) (q : FVec F S256x64 .bf16) (k : FVec F (SKeyH n) .bf16) (b : FVec F (SSc n) .f32) :
    FVec F (SSc n) .f32 :=
  addf (matmul (DotDims.transposedRhs 256 64 n) none
      (truncf .bf16 (mulf (extf .f32 q bitsLt_bf16_f32) (broadcast S256x64 (Named.named κ "qscale" 0x3E38AA3B#32))) bitsLt_bf16_f32)
      k (constant (SSc n) .f32 0x00000000#32))
    (mulf b (broadcast (SSc n) (Named.named κ "log2e" 0x3FB8AA3B#32)))

/-- The powers of two of the scores less their row's maximum. -/
def pows {n lo : ℕ} (w : Width n lo) (s : FVec F (SSc n) .f32) : FVec F (SSc n) .f32 :=
  exp2 (subf s (broadcastTo (SSc n) (shapeCast S256x1
    (multiReduction .maximumf [1] S256 s 0xFF800000#32 w.red (.inl rfl) rfl) shapeCasts_S256_S256x1) w.bc))

/-- The weighted sum of the values over the sum of the weights. -/
def mean {n lo : ℕ} (w : Width n lo) (p : FVec F (SSc n) .f32) (v : FVec F (SKeyH n) .bf16) : FVec F S256x64 .f32 :=
  divf (matmul (DotDims.plain 256 n 64) none (truncf .bf16 p bitsLt_bf16_f32) v (constant S256x64 .f32 0x00000000#32))
    (broadcastTo S256x64 (shapeCast S256x1
      (multiReduction .add [1] S256 p 0x00000000#32 w.red (.inl rfl) rfl) shapeCasts_S256_S256x1) broadcasts_S256x1_S256x64)

/-- One head. -/
def head {n lo : ℕ} (w : Width n lo) (q : FVec F S256x64 .bf16) (k v : FVec F (SKeyH n) .bf16) (b : FVec F (SSc n) .f32) :
    FVec F S256x64 .f32 := mean w (pows w (score w q k b)) v

/-- Head `h` of a point: its slices of the point's blocks of queries, keys, values and biases. -/
def headAt {n lo : ℕ} (w : Width n lo) (q : FVec F S256x512 .bf16) (k v : FVec F (SKey n) .bf16) (b : FVec F S8x256x768 .f32)
    (h : Fin 8) : FVec F S256x64 .f32 :=
  head w (shapeCast S256x64 (View.ld (Val := Elt F) (e' := .bf16) q (Rect.unit (s := S256x512) ![0, 64 * h.val] S256x64.size (w.qry h))) shapeCasts_S256x64_S256x64)
    (extractStridedSlice (SKeyH n) ![0, 64 * h.val] k (w.key h)) (extractStridedSlice (SKeyH n) ![0, 64 * h.val] v (w.key h))
    (shapeCast (SSc n) (View.ld (Val := Elt F) (e' := .f32) b (Rect.unit (s := S8x256x768) ![h.val, 0, lo] (SBias n).size (w.bia h))) w.cast)

/-- The rows' mean square taken out, the rows scaled by `g`. -/
def rows (y : FVec F S256x512 .f32) (g : FVec F S1x512 .f32) : FVec F S256x512 .bf16 :=
  truncf .bf16 (mulf (mulf y (broadcastTo S256x512 (rsqrt (addf (divf (shapeCast S256x1
      (multiReduction .add [1] S256 (mulf y y) 0x00000000#32 reduces_S256x512_S256 (.inl rfl) rfl) shapeCasts_S256_S256x1)
      (broadcast S256x1 (Scalar.ofBits .f32 0x44000000#32))) (broadcast S256x1 (Scalar.ofBits .f32 0x358637BD#32))))
      broadcasts_S256x1_S256x512)) (broadcastTo S256x512 (shapeCast S1x512 g shapeCasts_S1x512_S1x512) broadcasts_S1x512_S256x512)) bitsLt_bf16_f32

/-- The eight heads side by side. -/
def heads {n lo : ℕ} (w : Width n lo) (q : FVec F S256x512 .bf16) (k v : FVec F (SKey n) .bf16) (b : FVec F S8x256x768 .f32) :
    FVec F S256x512 .f32 :=
  concatenate S256x512 1 [⟨S256x64, headAt w q k v b 0⟩, ⟨S256x64, headAt w q k v b 1⟩, ⟨S256x64, headAt w q k v b 2⟩,
    ⟨S256x64, headAt w q k v b 3⟩, ⟨S256x64, headAt w q k v b 4⟩, ⟨S256x64, headAt w q k v b 5⟩, ⟨S256x64, headAt w q k v b 6⟩,
    ⟨S256x64, headAt w q k v b 7⟩] concatenates_S256x64_S256x64_S256x64_S256x64_S256x64_S256x64_S256x64_S256x64_S256x512_d1

theorem width256 : Width 256 512 := ⟨reduces_S256x256_S256, broadcasts_S256x1_S256x256, shapeCasts_S1x256x256_S256x256,
  by decide, by decide, by decide⟩
theorem width512 : Width 512 256 := ⟨reduces_S256x512_S256, broadcasts_S256x1_S256x512, shapeCasts_S1x256x512_S256x512,
  by decide, by decide, by decide⟩
theorem width768 : Width 768 0 := ⟨reduces_S256x768_S256, broadcasts_S256x1_S256x768, shapeCasts_S1x256x768_S256x768,
  by decide, by decide, by decide⟩

theorem hz : (![0, 0] : Fin 2 → Nat) = fun _ => 0 := funext fun a => by fin_cases a <;> rfl

/-- The keys of a second block: the block before it, then its own. -/
def cat2 (x y : FVec F S256x512 .bf16) : FVec F S512x512 .bf16 :=
  concatenate S512x512 0 [⟨S256x512, x⟩, ⟨S256x512, y⟩] concatenates_S256x512_S256x512_S512x512_d0
/-- The keys of a later block: the two blocks before it, then its own. -/
def cat3 (x y z : FVec F S256x512 .bf16) : FVec F S768x512 .bf16 :=
  concatenate S768x512 0 [⟨S256x512, x⟩, ⟨S256x512, y⟩, ⟨S256x512, z⟩] concatenates_S256x512_S256x512_S256x512_S768x512_d0
/-- A block read whole. -/
def whole (x : FVec F S256x512 .bf16) : FVec F S256x512 .bf16 := shapeCast S256x512 x shapeCasts_S256x512_S256x512
theorem whole_eq (x : FVec F S256x512 .bf16) : whole x = x := shapeCast_self _ _

section
variable (c : Dev nD) (i : grid0.Coords) (arg2 : Memref sig .tc .vmem S256x512 .bf16) (harg2 : arg2.IsWhole)
  (arg3 : Memref sig .tc .vmem S256x512 .bf16) (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .bf16) (harg6 : arg6.IsWhole)
  (arg7 : Memref sig .tc .vmem S256x512 .bf16) (harg7 : arg7.IsWhole) (arg8 : Memref sig .tc .vmem S256x512 .bf16) (harg8 : arg8.IsWhole)
  (arg9 : Memref sig .tc .vmem S8x256x768 .f32) (harg9 : arg9.IsWhole) (arg10 : Memref sig .tc .vmem S1x512 .f32) (harg10 : arg10.IsWhole)
  (arg11 : Memref sig .tc .vmem S256x512 .bf16) (harg11 : arg11.IsWhole)
  (x0 x1 x2 x3 x4 x5 x6 : Vec F S256x512 .bf16) (x7 : Vec F S8x256x768 .f32) (x8 : Vec F S1x512 .f32)

/-- A first block of a sequence attends to its own 256 keys. -/
theorem out_A (hc0 : cond0_0 i) (hc1 : ¬cond0_1 i) (hc2 : ¬cond0_2 i) :
    out0_A_9 c i arg2 harg2 arg3 harg3 arg4 harg4 arg5 harg5 arg6 harg6 arg7 harg7 arg8 harg8 arg9 harg9 arg10 harg10 arg11 harg11
      hc0 hc1 hc2 x0 x1 x2 x3 x4 x5 x6 x7 x8 = rows (heads width256 x0 x3 x6 x7) x8 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 hc1 hc2 x0 x1 x2 x3 x4 x5 x6 x7 x8)]
  unfold kernelRun0_A
  dsimp only
  sl_unfold_words
  rw [View.canon_unit_zero hz]
  simp only [View.readAt_eq_ld, harg2.read_unread, harg5.read_unread, harg8.read_unread, harg9.read_unread, harg10.read_unread,
    View.ld_unit_zero (S := S256x512) hz, View.ld_unit_zero (S := S1x512) hz]
  refine Eq.trans (b := rows (heads width256 x0 (whole x3) (whole x6) x7) x8) rfl ?_
  simp only [whole_eq]

/-- A second block attends to the block before it and its own. -/
theorem out_B (hc0 : ¬cond0_0 i) (hc1 : cond0_1 i) (hc2 : ¬cond0_2 i) :
    out0_B_9 c i arg2 harg2 arg3 harg3 arg4 harg4 arg5 harg5 arg6 harg6 arg7 harg7 arg8 harg8 arg9 harg9 arg10 harg10 arg11 harg11
      hc0 hc1 hc2 x0 x1 x2 x3 x4 x5 x6 x7 x8 = rows (heads width512 x0 (cat2 x2 x3) (cat2 x5 x6) x7) x8 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 hc1 hc2 x0 x1 x2 x3 x4 x5 x6 x7 x8)]
  unfold kernelRun0_B
  dsimp only
  sl_unfold_words
  rw [View.canon_unit_zero hz]
  simp only [View.readAt_eq_ld, harg2.read_unread, harg4.read_unread, harg5.read_unread, harg7.read_unread, harg8.read_unread, harg9.read_unread, harg10.read_unread,
    View.ld_unit_zero (S := S256x512) hz, View.ld_unit_zero (S := S1x512) hz]
  refine Eq.trans (b := rows (heads width512 x0 (cat2 (whole x2) (whole x3)) (cat2 (whole x5) (whole x6)) x7) x8) rfl ?_
  simp only [whole_eq]

/-- A later block attends to the two blocks before it and its own. -/
theorem out_C (hc0 : ¬cond0_0 i) (hc1 : ¬cond0_1 i) (hc2 : cond0_2 i) :
    out0_C_9 c i arg2 harg2 arg3 harg3 arg4 harg4 arg5 harg5 arg6 harg6 arg7 harg7 arg8 harg8 arg9 harg9 arg10 harg10 arg11 harg11
      hc0 hc1 hc2 x0 x1 x2 x3 x4 x5 x6 x7 x8 = rows (heads width768 x0 (cat3 x1 x2 x3) (cat3 x4 x5 x6) x7) x8 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 hc0 hc1 hc2 x0 x1 x2 x3 x4 x5 x6 x7 x8)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread,
    View.ld_unit_zero (S := S256x512) hz, View.ld_unit_zero (S := S1x512) hz]
  refine Eq.trans (b := rows (heads width768 x0 (cat3 (whole x1) (whole x2) (whole x3)) (cat3 (whole x4) (whole x5) (whole x6)) x7) x8) rfl ?_
  simp only [whole_eq]

end

end Cert.KernelIdeal.Attn

end
-- ==== Proof.Softmax.lean ====
module

public import Idealize.ShloMosaic.PureOps.Ideal

/-! The arithmetic of a masked softmax over the extended reals.

A score is a real number where its key may be seen and `-inf` elsewhere.  Dividing the weighted sum by the sum of the
weights (powers of two of scores carrying the factor `1 / log 2`) gives the same number as weighting with the
normalised exponentials; both equal one sum with real weights, `Softmax.avg`. -/

@[expose] public section

noncomputable section

namespace Softmax

open Idealize.ShloMosaic
open scoped BigOperators

variable {ι : Type*} [Fintype ι]

/-- A score: the real number `t` where the key is seen, `-inf` elsewhere. -/
def masked (a : Prop) [Decidable a] (t : ℝ) : EReal := if a then (t : EReal) else ⊥

/-- The weight of a key before normalisation. -/
def wt (a : Prop) [Decidable a] (t : ℝ) : ℝ := if a then Real.exp t else 0

/-- The average of `v` with the real weights `w`. -/
def avg (w : ι → ℝ) (v : ι → EReal) : EReal := ∑ j, ((w j / ∑ i, w i : ℝ) : EReal) * v j

theorem coe_sum {κ : Type*} (S : Finset κ) (f : κ → ℝ) : ((∑ j ∈ S, f j : ℝ) : EReal) = ∑ j ∈ S, (f j : EReal) := by
  classical
  induction S using Finset.induction_on with
  | empty => simp
  | insert a s ha ih => rw [Finset.sum_insert ha, Finset.sum_insert ha, EReal.coe_add, ih]

/-- A nonnegative real factor goes into a sum. -/
theorem mul_sum_coe {κ : Type*} {r : ℝ} (hr : 0 ≤ r) (S : Finset κ) (f : κ → EReal) :
    (r : EReal) * ∑ j ∈ S, f j = ∑ j ∈ S, (r : EReal) * f j := by
  classical
  induction S using Finset.induction_on with
  | empty => simp
  | insert a s ha ih =>
    rw [Finset.sum_insert ha, Finset.sum_insert ha, ← ih,
      EReal.left_distrib_of_nonneg_of_ne_top (EReal.coe_nonneg.mpr hr) (EReal.coe_ne_top r)]

/-- The greatest of masked scores, at least one of them seen, is a real number. -/
theorem sup_real (a : ι → Prop) [∀ j, Decidable (a j)] (t : ι → ℝ) (h : ∃ j, a j) :
    ∃ M : ℝ, Finset.univ.sup (fun j => masked (a j) (t j)) = (M : EReal) := by
  obtain ⟨j, hj⟩ := h
  have hb : Finset.univ.sup (fun j => masked (a j) (t j)) ≠ ⊥ := by
    intro e
    have := Finset.le_sup (f := fun j => masked (a j) (t j)) (Finset.mem_univ j)
    rw [e] at this
    simp [masked, hj] at this
  have ht : Finset.univ.sup (fun j => masked (a j) (t j)) ≠ ⊤ := by
    refine ne_of_lt ((Finset.sup_lt_iff (by simp)).mpr fun i _ => ?_)
    unfold masked
    split
    · exact EReal.coe_lt_top _
    · simp
  exact ⟨_, (EReal.coe_toReal ht hb).symm⟩

theorem exp2_masked (a : Prop) [Decidable a] (t M : ℝ) :
    Ideal.exp2 (masked a (t * (Real.log 2)⁻¹) - (M : EReal)) = ((wt a t * Real.rpow 2 (-M) : ℝ) : EReal) := by
  unfold masked wt
  split
  · rw [← EReal.coe_sub, Ideal.exp2_coe]
    congr 1
    show (2 : ℝ) ^ (t * (Real.log 2)⁻¹ - M) = Real.exp t * (2 : ℝ) ^ (-M)
    rw [sub_eq_add_neg, Real.rpow_add (by norm_num)]
    congr 1
    rw [Real.rpow_def_of_pos (by norm_num)]
    congr 1
    have : Real.log 2 ≠ 0 := (Real.log_pos (by norm_num)).ne'
    field_simp
  · rw [show (⊥ : EReal) - (M : EReal) = ⊥ from EReal.bot_sub _]
    simp

theorem exp_masked (a : Prop) [Decidable a] (t M : ℝ) :
    Ideal.exp (masked a t - (M : EReal)) = ((wt a t * Real.exp (-M) : ℝ) : EReal) := by
  unfold masked wt
  split
  · rw [← EReal.coe_sub, Ideal.exp_coe]
    congr 1
    rw [sub_eq_add_neg, Real.exp_add]
  · rw [show (⊥ : EReal) - (M : EReal) = ⊥ from EReal.bot_sub _]
    simp

theorem wt_nonneg (a : Prop) [Decidable a] (t : ℝ) : 0 ≤ wt a t := by
  unfold wt; split
  · exact (Real.exp_pos t).le
  · exact le_rfl

theorem total_pos (a : ι → Prop) [∀ j, Decidable (a j)] (t : ι → ℝ) (h : ∃ j, a j) : 0 < ∑ j, wt (a j) (t j) := by
  obtain ⟨j, hj⟩ := h
  refine Finset.sum_pos' (fun i _ => wt_nonneg _ _) ⟨j, Finset.mem_univ j, ?_⟩
  simp [wt, hj, Real.exp_pos]

/-- Weighted sum over sum of weights, at powers of two. -/
theorem late (a : ι → Prop) [∀ j, Decidable (a j)] (t : ι → ℝ) (v : ι → EReal) (h : ∃ j, a j) (s : ι → EReal)
    (hs : ∀ j, s j = masked (a j) (t j * (Real.log 2)⁻¹)) :
    Ideal.div (∑ j, Ideal.exp2 (s j - Finset.univ.sup s) * v j) (∑ j, Ideal.exp2 (s j - Finset.univ.sup s))
      = avg (fun j => wt (a j) (t j)) v := by
  obtain rfl : s = fun j => masked (a j) (t j * (Real.log 2)⁻¹) := funext hs
  obtain ⟨M, hM⟩ := sup_real a (fun j => t j * (Real.log 2)⁻¹) h
  have hp := total_pos a t h
  have h2 : 0 < Real.rpow 2 (-M) := Real.rpow_pos_of_pos (by norm_num) _
  rw [hM]
  simp only [exp2_masked]
  rw [← coe_sum, ← Finset.sum_mul, Ideal.div_coe (mul_pos hp h2).ne', mul_comm, mul_sum_coe (by positivity)]
  unfold avg
  refine Finset.sum_congr rfl fun j _ => ?_
  rw [← mul_assoc, ← EReal.coe_mul]
  congr 2
  field_simp

/-- Normalised exponentials used as weights. -/
theorem early (a : ι → Prop) [∀ j, Decidable (a j)] (t : ι → ℝ) (v : ι → EReal) (h : ∃ j, a j) (s : ι → EReal)
    (hs : ∀ j, s j = masked (a j) (t j)) :
    ∑ j, v j * Ideal.div (Ideal.exp (s j - Finset.univ.sup s)) (∑ j, Ideal.exp (s j - Finset.univ.sup s))
      = avg (fun j => wt (a j) (t j)) v := by
  obtain rfl : s = fun j => masked (a j) (t j) := funext hs
  obtain ⟨M, hM⟩ := sup_real a t h
  have hp := total_pos a t h
  have h2 : 0 < Real.exp (-M) := Real.exp_pos _
  rw [hM]
  simp only [exp_masked]
  unfold avg
  refine Finset.sum_congr rfl fun j _ => ?_
  rw [← coe_sum, ← Finset.sum_mul, Ideal.div_coe (mul_pos hp h2).ne', ← EReal.coe_mul, mul_comm]
  congr 2
  field_simp

/-- Keys outside the common part weigh nothing, so the average over one run of keys is the one over another. -/
theorem avg_shift {n m : ℕ} (lo st : ℕ) (w w' : ℕ → ℝ) (v v' : ℕ → EReal)
    (hw : ∀ x, x < lo ∨ lo + n ≤ x → w' x = 0) (hw' : ∀ x, x < st ∨ st + m ≤ x → w x = 0)
    (hww : ∀ x, lo ≤ x → x < lo + n → st ≤ x → x < st + m → w x = w' x)
    (hv : ∀ x, lo ≤ x → x < lo + n → st ≤ x → x < st + m → v x = v' x) :
    avg (fun j : Fin n => w (lo + j)) (fun j => v (lo + j)) = avg (fun k : Fin m => w' (st + k)) (fun k => v' (st + k)) := by
  have key : ∀ (M : Type) [AddCommMonoid M] (f g : ℕ → M),
      (∀ x, lo ≤ x → x < lo + n → (x < st ∨ st + m ≤ x) → f x = 0) →
      (∀ x, st ≤ x → x < st + m → (x < lo ∨ lo + n ≤ x) → g x = 0) →
      (∀ x, lo ≤ x → x < lo + n → st ≤ x → x < st + m → f x = g x) →
      ∑ j : Fin n, f (lo + j) = ∑ k : Fin m, g (st + k) := by
    intro M _ f g hf hg hfg
    rw [Fin.sum_univ_eq_sum_range (fun x => f (lo + x)), Fin.sum_univ_eq_sum_range (fun x => g (st + x))]
    have e1 := Finset.sum_Ico_eq_sum_range f lo (lo + n)
    have e2 := Finset.sum_Ico_eq_sum_range g st (st + m)
    rw [Nat.add_sub_cancel_left] at e1 e2
    rw [← e1, ← e2, ← Finset.sum_subset (s₁ := Finset.Ico lo (lo + n) ∩ Finset.Ico st (st + m)) Finset.inter_subset_left,
      ← Finset.sum_subset (s₁ := Finset.Ico lo (lo + n) ∩ Finset.Ico st (st + m)) (s₂ := Finset.Ico st (st + m))
        Finset.inter_subset_right]
    · refine Finset.sum_congr rfl fun x hx => ?_
      simp only [Finset.mem_inter, Finset.mem_Ico] at hx
      exact hfg x hx.1.1 hx.1.2 hx.2.1 hx.2.2
    · intro x hx hn
      simp only [Finset.mem_inter, Finset.mem_Ico] at hx hn
      exact hg x hx.1 hx.2 (by omega)
    · intro x hx hn
      simp only [Finset.mem_inter, Finset.mem_Ico] at hx hn
      exact hf x hx.1 hx.2 (by omega)
  have hz : ∑ j : Fin n, w (lo + j) = ∑ k : Fin m, w' (st + k) :=
    key ℝ w w' (fun x _ _ hx => hw' x hx) (fun x _ _ hx => hw x hx) hww
  unfold avg
  rw [hz]
  refine key EReal (fun x => ((w x / ∑ k : Fin m, w' (st + k) : ℝ) : EReal) * v x)
    (fun x => ((w' x / ∑ k : Fin m, w' (st + k) : ℝ) : EReal) * v' x) ?_ ?_ ?_
  · intro x _ _ hx; simp [hw' x hx]
  · intro x _ _ hx; simp [hw x hx]
  · intro x h1 h2 h3 h4; simp only [hww x h1 h2 h3 h4, hv x h1 h2 h3 h4]

end Softmax

end
-- ==== Proof.AttnRead.lean ====
module

public import proofs.«01_k».proof.Proof.AttnOut
public import proofs.«01_k».proof.Proof.Softmax
public import Idealize.ShloMosaic.Lib.Pointwise
public import Idealize.ShloMosaic.Lib.MatmulPlain

/-! # One entry of a block of results, over the extended reals -/

@[expose] public section

set_option maxRecDepth 16384

noncomputable section

namespace Cert.KernelIdeal.Attn

open Cert.KernelIdeal Cert.KernelIdeal.Gen Idealize.ShloMosaic Idealize.ShloMosaic.TcCoe Idealize.SL.Sem
open scoped BigOperators

variable {n lo : ℕ} (w : Width n lo)

theorem zero_f32 : (FloatOps.ofBits .f32 0x00000000#32 : Ideal .f32) = (0 : EReal) := by
  show Ideal.ofBits .f32 0x00000000#32 = 0
  simp [Ideal.ofBits, Ideal.ieee]

theorem ninf_f32 : Ideal.ofBits .f32 0xFF800000#32 = (⊥ : EReal) := by simp [Ideal.ofBits, Ideal.ieee]

theorem qscale_eq : (Named.named κ "qscale" 0x3E38AA3B#32 : Ideal .f32) = ((1 / 8 * (Real.log 2)⁻¹ : ℝ) : EReal) := rfl
theorem log2e_eq : (Named.named κ "log2e" 0x3FB8AA3B#32 : Ideal .f32) = (((Real.log 2)⁻¹ : ℝ) : EReal) := rfl

theorem score_apply (q : FVec Ideal S256x64 .bf16) (k : FVec Ideal (SKeyH n) .bf16) (b : FVec Ideal (SSc n) .f32)
    (r : Fin 256) (j : Fin n) : (score w q k b (ix2 r j) : EReal)
      = (∑ e : Fin 64, (q (ix2 r e) : EReal) * ((1 / 8 * (Real.log 2)⁻¹ : ℝ) : EReal) * (k (ix2 j e) : EReal))
        + (b (ix2 r j) : EReal) * (((Real.log 2)⁻¹ : ℝ) : EReal) := by
  refine Eq.trans (b := (FloatOps.matmul (F := Ideal) (DotDims.transposedRhs 256 64 n) none
      (truncf .bf16 (mulf (extf .f32 q bitsLt_bf16_f32) (broadcast S256x64 (Named.named κ "qscale" 0x3E38AA3B#32))) bitsLt_bf16_f32)
      k (constant (SSc n) .f32 0x00000000#32) (ValueIdx.ix2 r j) : EReal) + (b (ix2 r j) : EReal) * (((Real.log 2)⁻¹ : ℝ) : EReal)) rfl ?_
  rw [Ideal.matmul_transposedRhs_apply]
  refine congrArg (· + _) ?_
  refine Eq.trans (congrArg (· + _) zero_f32) ?_
  rw [zero_add]
  rfl

theorem fold_max_sup {ι : Type*} (S : Finset ι) (f : ι → EReal) : Finset.fold max (⊥ : EReal) f S = S.sup f := rfl

set_option backward.isDefEq.respectTransparency false in
theorem pows_apply (s : FVec Ideal (SSc n) .f32) (r : Fin 256) (j : Fin n) : (pows w s (ix2 r j) : EReal)
      = Ideal.exp2 ((s (ix2 r j) : EReal) - Finset.univ.sup fun j : Fin n => (s (ix2 r j) : EReal)) := by
  unfold pows
  pointwise
  rw [ninf_f32]
  rfl

set_option backward.isDefEq.respectTransparency false in
theorem sum_apply (p : FVec Ideal (SSc n) .f32) (r : Fin 256) (d : Fin 64) :
    (broadcastTo S256x64 (shapeCast S256x1
      (multiReduction .add [1] S256 p 0x00000000#32 w.red (.inl rfl) rfl) shapeCasts_S256_S256x1) broadcasts_S256x1_S256x64 (ix2 r d) : EReal)
      = ∑ j : Fin n, (p (ix2 r j) : EReal) := by
  pointwise

theorem mean_apply (p : FVec Ideal (SSc n) .f32) (v : FVec Ideal (SKeyH n) .bf16) (r : Fin 256) (d : Fin 64) :
    (mean w p v (ix2 r d) : EReal)
      = Ideal.div (∑ j : Fin n, (p (ix2 r j) : EReal) * (v (ix2 j d) : EReal)) (∑ j : Fin n, (p (ix2 r j) : EReal)) := by
  rw [← sum_apply w p r d]
  refine Eq.trans (b := Ideal.div (FloatOps.matmul (F := Ideal) (DotDims.plain 256 n 64) none
    (truncf .bf16 p bitsLt_bf16_f32) v (constant S256x64 .f32 0x00000000#32) (ValueIdx.ix2 r d)) _) rfl ?_
  rw [Ideal.matmul_plain_apply]
  refine congrArg (Ideal.div · _) ?_
  refine Eq.trans (congrArg (· + _) zero_f32) ?_
  rw [zero_add]
  rfl

set_option backward.isDefEq.respectTransparency false in
theorem rows_apply (y : FVec Ideal S256x512 .f32) (g : FVec Ideal S1x512 .f32) (r : Fin 256) (d : Fin 512) :
    (rows y g (ix2 r d) : EReal) = (y (ix2 r d) : EReal)
      * Ideal.rsqrt (Ideal.div (∑ x : Fin 512, (y (ix2 r x) : EReal) * (y (ix2 r x) : EReal)) (Ideal.ofBits .f32 0x44000000#32)
          + Ideal.ofBits .f32 0x358637BD#32) * (g (ix2 0 d) : EReal) := by
  unfold rows
  pointwise

set_option backward.isDefEq.respectTransparency false in
theorem qry_apply (q : FVec Ideal S256x512 .bf16) (h : Fin 8) (r : Fin 256) (e : Fin 64) :
    shapeCast S256x64 (View.ld (Val := Elt Ideal) (e' := .bf16) q (Rect.unit (s := S256x512) ![0, 64 * h.val] S256x64.size (w.qry h)))
      shapeCasts_S256x64_S256x64 (ix2 r e) = q (ix2 r ⟨64 * h.val + e.val, by omega⟩) := by
  pointwise

set_option backward.isDefEq.respectTransparency false in
theorem key_apply (k : FVec Ideal (SKey n) .bf16) (h : Fin 8) (j : Fin n) (e : Fin 64) :
    extractStridedSlice (SKeyH n) ![0, 64 * h.val] k (w.key h) (ix2 j e) = k (ix2 j ⟨64 * h.val + e.val, by omega⟩) := by
  refine congrArg k (funext fun a => Fin.ext ?_)
  fin_cases a
  · exact Nat.zero_add _
  · rfl

set_option backward.isDefEq.respectTransparency false in
theorem bia_apply (hl : lo + n = 768) (b : FVec Ideal S8x256x768 .f32) (h : Fin 8) (r : Fin 256) (j : Fin n) :
    shapeCast (SSc n) (View.ld (Val := Elt Ideal) (e' := .f32) b (Rect.unit (s := S8x256x768) ![h.val, 0, lo] (SBias n).size (w.bia h)))
      w.cast (ix2 r j) = b (ix3 h r ⟨lo + j.val, by omega⟩) := by
  refine (shapeCast_dropUnit_apply ![256, n] _ _ _).trans ?_
  refine congrArg b (funext fun a => Fin.ext ?_)
  fin_cases a
  · exact Nat.add_zero _
  · exact (Nat.zero_add _).trans (Nat.one_mul _)
  · exact congrArg (lo + ·) (Nat.one_mul _)

set_option backward.isDefEq.respectTransparency false in
theorem cat8_apply (H : Fin 8 → FVec Ideal S256x64 .f32) (r : Fin 256) (h : Fin 8) (d : Fin 64) :
    concatenate S256x512 1 [⟨S256x64, H 0⟩, ⟨S256x64, H 1⟩, ⟨S256x64, H 2⟩, ⟨S256x64, H 3⟩, ⟨S256x64, H 4⟩, ⟨S256x64, H 5⟩,
      ⟨S256x64, H 6⟩, ⟨S256x64, H 7⟩] concatenates_S256x64_S256x64_S256x64_S256x64_S256x64_S256x64_S256x64_S256x64_S256x512_d1
      (ix2 r ⟨64 * h.val + d.val, by omega⟩) = H h (ix2 r d) := by
  pointwise
  have hd := d.isLt
  have hh := h.isLt
  have key : ∀ (i : Fin 8) (x : ℕ) (hx : x < 64), 64 * i.val + x = 64 * h.val + d.val → H i (ix2 r ⟨x, hx⟩) = H h (ix2 r d) := by
    intro i x hx e
    obtain rfl : i = h := Fin.ext (by omega)
    exact congrArg (fun y => H i (ix2 r y)) (Fin.ext (by show x = d.val; omega))
  split
  · exact key 0 _ _ (by show 64 * 0 + _ = _; omega)
  split
  · exact key 1 _ _ (by show 64 * 1 + _ = _; omega)
  split
  · exact key 2 _ _ (by show 64 * 2 + _ = _; omega)
  split
  · exact key 3 _ _ (by show 64 * 3 + _ = _; omega)
  split
  · exact key 4 _ _ (by show 64 * 4 + _ = _; omega)
  split
  · exact key 5 _ _ (by show 64 * 5 + _ = _; omega)
  split
  · exact key 6 _ _ (by show 64 * 6 + _ = _; omega)
  exact key 7 _ _ (by show 64 * 7 + _ = _; omega)

/-- One entry of a head's result, from the entries of the point's blocks. -/
theorem heads_apply (hl : lo + n = 768) (q : FVec Ideal S256x512 .bf16) (k v : FVec Ideal (SKey n) .bf16)
    (b : FVec Ideal S8x256x768 .f32) (r : Fin 256) (h : Fin 8) (d : Fin 64) (s : Fin n → EReal)
    (hs : ∀ j, s j = (∑ e : Fin 64, (q (ix2 r ⟨64 * h.val + e.val, by omega⟩) : EReal) * ((1 / 8 * (Real.log 2)⁻¹ : ℝ) : EReal)
          * (k (ix2 j ⟨64 * h.val + e.val, by omega⟩) : EReal))
        + (b (ix3 h r ⟨lo + j.val, by omega⟩) : EReal) * (((Real.log 2)⁻¹ : ℝ) : EReal)) :
    (heads w q k v b (ix2 r ⟨64 * h.val + d.val, by omega⟩) : EReal)
      = Ideal.div (∑ j, Ideal.exp2 (s j - Finset.univ.sup s) * (v (ix2 j ⟨64 * h.val + d.val, by omega⟩) : EReal))
          (∑ j, Ideal.exp2 (s j - Finset.univ.sup s)) := by
  refine (cat8_apply (headAt w q k v b) r h d).trans ?_
  unfold headAt head
  rw [mean_apply]
  have hp : ∀ j : Fin n, (pows w (score w
      (shapeCast S256x64 (View.ld (Val := Elt Ideal) (e' := .bf16) q (Rect.unit (s := S256x512) ![0, 64 * h.val] S256x64.size (w.qry h))) shapeCasts_S256x64_S256x64)
      (extractStridedSlice (SKeyH n) ![0, 64 * h.val] k (w.key h))
      (shapeCast (SSc n) (View.ld (Val := Elt Ideal) (e' := .f32) b (Rect.unit (s := S8x256x768) ![h.val, 0, lo] (SBias n).size (w.bia h))) w.cast))
      (ix2 r j) : EReal) = Ideal.exp2 (s j - Finset.univ.sup s) := by
    intro j
    have hsc : ∀ j : Fin n, (score w
      (shapeCast S256x64 (View.ld (Val := Elt Ideal) (e' := .bf16) q (Rect.unit (s := S256x512) ![0, 64 * h.val] S256x64.size (w.qry h))) shapeCasts_S256x64_S256x64)
      (extractStridedSlice (SKeyH n) ![0, 64 * h.val] k (w.key h))
      (shapeCast (SSc n) (View.ld (Val := Elt Ideal) (e' := .f32) b (Rect.unit (s := S8x256x768) ![h.val, 0, lo] (SBias n).size (w.bia h))) w.cast)
      (ix2 r j) : EReal) = s j := by
      intro j
      rw [hs, score_apply, bia_apply w hl]
      exact congrArg (· + _) (Finset.sum_congr rfl fun e _ => congrArg₂ (fun x y : EReal => x * _ * y) (qry_apply w q h r e) (key_apply w k h j e))
    rw [pows_apply]
    simp only [hsc]
  simp only [hp]
  exact congrArg (Ideal.div · _) (Finset.sum_congr rfl fun j _ => congrArg (fun x : EReal => _ * x) (key_apply w v h j d))

set_option backward.isDefEq.respectTransparency false in
theorem cat2_apply (x y : FVec Ideal S256x512 .bf16) (j : Fin 512) (c : Fin 512) :
    cat2 x y (ix2 j c) = if h : j.val < 256 then x (ix2 ⟨j.val, h⟩ c) else y (ix2 ⟨j.val - 256, by omega⟩ c) := by
  unfold cat2
  pointwise

set_option backward.isDefEq.respectTransparency false in
theorem cat3_apply (x y z : FVec Ideal S256x512 .bf16) (j : Fin 768) (c : Fin 512) :
    cat3 x y z (ix2 j c) = if h : j.val < 256 then x (ix2 ⟨j.val, h⟩ c)
      else if h2 : j.val < 512 then y (ix2 ⟨j.val - 256, by omega⟩ c) else z (ix2 ⟨j.val - 512, by omega⟩ c) := by
  unfold cat3
  pointwise
  have hj := j.isLt
  by_cases h1 : j.val < 256
  · rw [dif_pos h1, dif_pos h1]
  · by_cases h2 : j.val < 512
    · rw [dif_neg h1, dif_neg h1, dif_pos h2, dif_pos (by omega : j.val - 256 < 256)]
    · rw [dif_neg h1, dif_neg h1, dif_neg h2, dif_neg (by omega : ¬j.val - 256 < 256)]
      exact congrArg (fun i : Fin 256 => z (ix2 i c)) (Fin.ext (by show j.val - 256 - 256 = j.val - 512; omega))

end Cert.KernelIdeal.Attn

end
-- ==== Proof.AttnTable.lean ====
module

public import proofs.«01_k».proof.Proof.AttnRead
public import Idealize.ShloMosaic.Lib.StableHlo.ReadAt
public import Idealize.ShloMosaic.Lib.Claim

/-!
# What the call's prepared arguments hold

The rows of `q`, `k` and `v` and the gain are the arguments themselves; the bias table holds, for a query `r` of a block and
a key `j` of the 768 before the block's end, the relative bias at distance `r - j + 512` clipped at 256, and `-inf` outside
the band of chunks.
-/

@[expose] public section

set_option maxRecDepth 16384

noncomputable section

namespace Cert.KernelIdeal.Attn

open Cert.KernelIdeal Cert.KernelIdeal.Gen Idealize.ShloMosaic Idealize.ShloMosaic.TcCoe Idealize.SL.Sem

variable (m : (ℓ : Loc nD τ sig) → Buf (Elt Ideal) ℓ)

/-- Division by 64 towards minus infinity, as the host code spells it. -/
def floor64 (x : BitVec 32) : BitVec 32 :=
  Scalar.select
    (IntOp.andi
      (IntOp.cmpi CmpIPredicate.ne (if x = 0 then 0 else if x.msb = true then -1 else (1 : BitVec 32))
        (if (64#32) = 0 then 0 else if BitVec.msb (64#32) = true then -1 else (1 : BitVec 32)))
      (IntOp.cmpi CmpIPredicate.ne (IntOp.remsi ArithUnit.host x (64#32)) 0#32))
    (IntOp.subi (IntOp.divsi ArithUnit.host x (64#32)) 1#32)
    (IntOp.divsi ArithUnit.host x (64#32))

theorem floor64_ofNat : ∀ x : Fin 768, floor64 (BitVec.ofNat 32 x.val) = BitVec.ofNat 32 (x.val / 64) := by decide +kernel

/-- Whether a chunk of keys lies in the band of a chunk of queries, as a word. -/
def inBand (a b : BitVec 32) : BitVec 1 :=
  IntOp.andi (IntOp.cmpi CmpIPredicate.sge (IntOp.subi (IntOp.addi (8#32) a) b) 0#32)
    (IntOp.cmpi CmpIPredicate.sle (IntOp.subi (IntOp.addi (8#32) a) b) 8#32)

theorem inBand_ofNat : ∀ (a : Fin 4) (b : Fin 12), inBand (BitVec.ofNat 32 a.val) (BitVec.ofNat 32 b.val)
    = if a.val ≤ b.val ∧ b.val ≤ a.val + 8 then 1#1 else 0#1 := by decide +kernel

/-- The relative bias of head `h` at (clipped) distance `x - 256`. -/
def rb (c : Dev nD) (h : Fin 8) (x : Fin 513) : EReal := m (c, Proc.tc.devRef main_arg3) (ix3 0 h x)

theorem rb_congr (c : Dev nD) (h : Fin 8) {x y : ℕ} (hx : x < 513) (hy : y < 513) (e : x = y) : rb m c h ⟨x, hx⟩ = rb m c h ⟨y, hy⟩ := by
  subst e; rfl

set_option maxHeartbeats 1000000 in
/-- The cyclic row of relative biases a query's row is cut from. -/
theorem cyc_eq (c : Dev nD) (h : Fin 8) (x : Fin 1024) : (V m c main_v8 (ix2 h x) : EReal)
    = rb m c h ⟨min 512 (if x.val < 769 then 768 - x.val else 1792 - x.val), by omega⟩ := by
  have hx := x.isLt
  unfold V
  after_reads_at
  split
  · rename_i h0
    after_reads_at
    split
    · after_reads_at
      exact rb_congr m c h (by decide) (by omega) (by show 512 = _; omega)
    · after_reads_at
      exact rb_congr m c h _ (by omega) (by show 513 - (255 + x.val - 511 + 1) = _; omega)
  · rename_i h0
    after_reads_at
    split
    · after_reads_at
      exact rb_congr m c h (by decide) (by omega) (by show 512 = _; omega)
    · after_reads_at
      exact rb_congr m c h _ (by omega) (by show 513 - (x.val - 769 - 511 + 1) = _; omega)

theorem skew_eq (c : Dev nD) (h : Fin 8) (r : Fin 256) (j : Fin 1023) :
    V m c main_v13 (ix3 h r j) = V m c main_v8 (ix2 h ⟨(r.val * 1023 + j.val) % 1024, by omega⟩) := by
  unfold V
  after_reads_at

theorem select_eq (c : Dev nD) (h : Fin 8) (r : Fin 256) (j : Fin 768) : (V m c main_v32 (ix3 h r j) : EReal)
    = Scalar.select (inBand (floor64 (BitVec.ofNat 32 r.val)) (floor64 (BitVec.ofNat 32 j.val)))
      (V m c main_v13 (ix3 h r ⟨j.val, by omega⟩) : EReal) (⊥ : EReal)  := by
  rw [← ninf_f32]
  unfold V
  after_reads_at
  rfl

/-- The bias table. -/
theorem table_eq (c : Dev nD) (h : Fin 8) (r : Fin 256) (j : Fin 768) : (V m c main_v32 (ix3 h r j) : EReal)
    = if r.val / 64 ≤ j.val / 64 ∧ j.val / 64 ≤ r.val / 64 + 8
      then rb m c h ⟨min 512 (768 + r.val - j.val), by omega⟩ else ⊥ := by
  have hr := r.isLt
  have hj := j.isLt
  rw [select_eq, skew_eq, cyc_eq, floor64_ofNat ⟨r.val, by omega⟩, floor64_ofNat j,
    inBand_ofNat ⟨r.val / 64, by omega⟩ ⟨j.val / 64, by omega⟩]
  dsimp only
  have hmod : (r.val * 1023 + j.val) % 1024 = if r.val ≤ j.val then j.val - r.val else 1024 + j.val - r.val := by
    split <;> omega
  split
  · refine rb_congr m c h _ _ ?_
    show min 512 (if (r.val * 1023 + j.val) % 1024 < 769 then 768 - (r.val * 1023 + j.val) % 1024
      else 1792 - (r.val * 1023 + j.val) % 1024) = min 512 (768 + r.val - j.val)
    rw [hmod]
    clear hmod
    split <;> split <;> omega
  · rfl

theorem q_eq (c : Dev nD) : (V m c main_v0 : FVec Ideal S16384x512 .bf16) = m (c, Proc.tc.devRef main_arg0) := by
  entry_read; rfl
theorem k_eq (c : Dev nD) : (V m c main_v1 : FVec Ideal S16384x512 .bf16) = m (c, Proc.tc.devRef main_arg1) := by
  entry_read; rfl
theorem v_eq (c : Dev nD) : (V m c main_v2 : FVec Ideal S16384x512 .bf16) = m (c, Proc.tc.devRef main_arg2) := by
  entry_read; rfl
theorem g_eq (c : Dev nD) (d : Fin 512) : (V m c main_v34 (ix2 0 d) : EReal) = m (c, Proc.tc.devRef main_arg4) (ix2 0 d) := by
  unfold V
  after_reads_at

end Cert.KernelIdeal.Attn

end
-- ==== Proof.AttnSpec.lean ====
module

public import proofs.«01_k».proof.Proof.Softmax

/-!
# Attention over a band of chunks, as one function of the arguments

A row `R` of the 16384 is position `R % 2048` of sequence `R / 2048`.  Keys are counted from 512 positions before the
sequence's start: key `X` is position `X - 512`, and a query of chunk `n` sees the keys of the nine chunks `64 n … 64 n + 575`
that are not before the start.  `att` is the attention of a row over these keys; both programs' entries are
brought to it, the block program's from the 256, 512 or 768 keys of a block (`of_block`), the plain one's from the 576 keys of
the band (`of_band`).
-/

@[expose] public section

noncomputable section

namespace Spec

open Idealize.ShloMosaic Softmax
open scoped BigOperators

variable (q k : Fin 16384 → Fin 512 → ℝ) (v : Fin 16384 → Fin 512 → EReal) (rb : Fin 8 → Fin 513 → ℝ)

/-- Column `e` of head `h`. -/
def col (h : Fin 8) (e : Fin 64) : Fin 512 := ⟨64 * h.val + e.val, by omega⟩

/-- The row of key `X` of row `R`'s sequence. -/
def krow (R : Fin 16384) (X : ℕ) : Fin 16384 := ⟨(R.val / 2048 * 2048 + X - 512) % 16384, Nat.mod_lt _ (by decide)⟩

/-- Key `X` is in the band of row `R` and not before the start. -/
abbrev seen (R : Fin 16384) (X : ℕ) : Prop :=
  512 ≤ X ∧ R.val % 2048 / 64 ≤ X / 64 ∧ X / 64 ≤ R.val % 2048 / 64 + 8

/-- The score of key `X`. -/
def sc (R : Fin 16384) (h : Fin 8) (X : ℕ) : ℝ :=
  (∑ e : Fin 64, q R (col h e) * k (krow R X) (col h e)) * (1 / 8) + rb h ⟨min 512 (768 + R.val % 2048 - X), by omega⟩

/-- The attention of row `R`, head `h`, at the head's column `d`. -/
def att (R : Fin 16384) (h : Fin 8) (d : Fin 64) : EReal :=
  avg (fun x : Fin 576 => wt (seen R (R.val % 2048 / 64 * 64 + x.val)) (sc q k rb R h (R.val % 2048 / 64 * 64 + x.val)))
    (fun x => v (krow R (R.val % 2048 / 64 * 64 + x.val)) (col h d))

theorem log2_pos : 0 < (Real.log 2)⁻¹ := inv_pos.mpr (Real.log_pos (by norm_num))

/-- A score in base two, its bias `-inf` outside the band. -/
theorem score_masked (a : Prop) [Decidable a] (f g : Fin 64 → ℝ) (b : ℝ) :
    (∑ e : Fin 64, (f e : EReal) * ((1 / 8 * (Real.log 2)⁻¹ : ℝ) : EReal) * (g e : EReal))
        + (if a then (b : EReal) else ⊥) * (((Real.log 2)⁻¹ : ℝ) : EReal)
      = masked a (((∑ e : Fin 64, f e * g e) * (1 / 8) + b) * (Real.log 2)⁻¹) := by
  have e1 : (∑ e : Fin 64, (f e : EReal) * ((1 / 8 * (Real.log 2)⁻¹ : ℝ) : EReal) * (g e : EReal))
      = (((∑ e : Fin 64, f e * g e) * (1 / 8) * (Real.log 2)⁻¹ : ℝ) : EReal) := by
    rw [Finset.sum_mul, Finset.sum_mul, coe_sum]
    refine Finset.sum_congr rfl fun e _ => ?_
    rw [← EReal.coe_mul, ← EReal.coe_mul]
    congr 1
    ring
  rw [e1]
  unfold masked
  split
  · rw [← EReal.coe_mul, ← EReal.coe_add, add_mul]
  · rw [EReal.bot_mul_coe_of_pos log2_pos, EReal.add_bot]

theorem avg_congr {ι : Type*} [Fintype ι] (w w' : ι → ℝ) (v v' : ι → EReal) (hw : ∀ j, w j = w' j)
    (hv : ∀ j, w j ≠ 0 → v j = v' j) : avg w v = avg w' v' := by
  obtain rfl : w = w' := funext hw
  unfold avg
  refine Finset.sum_congr rfl fun j _ => ?_
  by_cases h : w j = 0
  · simp [h]
  · rw [hv j h]

/-- A block's row: the keys of the block and of up to two blocks before it. -/
theorem of_block {N lo : ℕ} (i : ℕ) (R : Fin 16384) (h : Fin 8) (d : Fin 64) (hl : lo + N = 768) (hi : lo = 512 - 256 * i)
    (hR : 256 * i ≤ R.val % 2048 ∧ R.val % 2048 < 256 * i + 256)
    (s vv : Fin N → EReal)
    (hs : ∀ j : Fin N, s j = (∑ e : Fin 64, (q R (col h e) : EReal) * ((1 / 8 * (Real.log 2)⁻¹ : ℝ) : EReal)
          * (k (krow R (256 * i + lo + j.val)) (col h e) : EReal))
        + (if (R.val % 2048 - 256 * i) / 64 ≤ (lo + j.val) / 64 ∧ (lo + j.val) / 64 ≤ (R.val % 2048 - 256 * i) / 64 + 8
            then (rb h ⟨min 512 (768 + (R.val % 2048 - 256 * i) - (lo + j.val)), by omega⟩ : EReal) else ⊥)
          * (((Real.log 2)⁻¹ : ℝ) : EReal))
    (hv : ∀ j : Fin N, vv j = v (krow R (256 * i + lo + j.val)) (col h d)) :
    Ideal.div (∑ j, Ideal.exp2 (s j - Finset.univ.sup s) * vv j) (∑ j, Ideal.exp2 (s j - Finset.univ.sup s))
      = att q k v rb R h d := by
  rw [late (fun j : Fin N => seen R (256 * i + lo + j.val)) (fun j => sc q k rb R h (256 * i + lo + j.val)) vv]
  · rw [funext hv]
    unfold att
    exact avg_shift (256 * i + lo) (R.val % 2048 / 64 * 64) (fun X => wt (seen R X) (sc q k rb R h X))
      (fun X => wt (seen R X) (sc q k rb R h X)) (fun X => v (krow R X) (col h d)) (fun X => v (krow R X) (col h d))
      (fun X hX => by rw [wt, if_neg]; rintro ⟨h1, h2, h3⟩; omega)
      (fun X hX => by rw [wt, if_neg]; rintro ⟨h1, h2, h3⟩; omega) (fun _ _ _ _ _ => rfl) (fun _ _ _ _ _ => rfl)
  · refine ⟨⟨R.val % 2048 - 256 * i + 512 - lo, by omega⟩, ?_⟩
    show 512 ≤ _ ∧ _ ∧ _
    refine ⟨?_, ?_, ?_⟩ <;> dsimp only <;> omega
  · intro j
    have hj := j.isLt
    rw [hs]
    have hb : (⟨min 512 (768 + (R.val % 2048 - 256 * i) - (lo + j.val)), by omega⟩ : Fin 513)
        = ⟨min 512 (768 + R.val % 2048 - (256 * i + lo + j.val)), by omega⟩ := Fin.ext (by show min _ _ = min _ _; omega)
    rw [hb]
    have hc : ((R.val % 2048 - 256 * i) / 64 ≤ (lo + j.val) / 64 ∧ (lo + j.val) / 64 ≤ (R.val % 2048 - 256 * i) / 64 + 8)
        = seen R (256 * i + lo + j.val) := by
      apply propext
      constructor
      · rintro ⟨h1, h2⟩; refine ⟨?_, ?_, ?_⟩ <;> omega
      · rintro ⟨h1, h2, h3⟩; constructor <;> omega
    rw [score_masked]
    unfold sc masked
    simp only [hc]

/-- A row of the band: the keys of its nine chunks, those before the start masked. -/
theorem of_band (R : Fin 16384) (h : Fin 8) (d : Fin 64) (s vv : Fin 576 → EReal)
    (hs : ∀ x : Fin 576, s x = if 512 ≤ R.val % 2048 / 64 * 64 + x.val then
        (∑ e : Fin 64, (q R (col h e) : EReal) * (k (krow R (R.val % 2048 / 64 * 64 + x.val)) (col h e) : EReal)) * ((1 / 8 : ℝ) : EReal)
          + (rb h ⟨min 512 (768 + R.val % 2048 - (R.val % 2048 / 64 * 64 + x.val)), by omega⟩ : EReal) else ⊥)
    (hv : ∀ x : Fin 576, 512 ≤ R.val % 2048 / 64 * 64 + x.val → vv x = v (krow R (R.val % 2048 / 64 * 64 + x.val)) (col h d)) :
    ∑ x, vv x * Ideal.div (Ideal.exp (s x - Finset.univ.sup s)) (∑ x, Ideal.exp (s x - Finset.univ.sup s))
      = att q k v rb R h d := by
  rw [early (fun x : Fin 576 => seen R (R.val % 2048 / 64 * 64 + x.val)) (fun x => sc q k rb R h (R.val % 2048 / 64 * 64 + x.val)) vv]
  · unfold att
    refine avg_congr _ _ _ _ (fun _ => rfl) fun x hx => hv x ?_
    by_contra hn
    refine hx ?_
    rw [wt, if_neg]
    rintro ⟨h1, _, _⟩
    exact hn h1
  · refine ⟨⟨R.val % 2048 % 64 + 512, by omega⟩, ?_⟩
    show 512 ≤ _ ∧ _ ∧ _
    refine ⟨?_, ?_, ?_⟩ <;> dsimp only <;> omega
  · intro x
    have hx := x.isLt
    rw [hs]
    have hc : (512 ≤ R.val % 2048 / 64 * 64 + x.val) = seen R (R.val % 2048 / 64 * 64 + x.val) := by
      apply propext
      constructor
      · intro h1; refine ⟨?_, ?_, ?_⟩ <;> omega
      · rintro ⟨h1, _, _⟩; exact h1
    have e1 : (∑ e : Fin 64, (q R (col h e) : EReal) * (k (krow R (R.val % 2048 / 64 * 64 + x.val)) (col h e) : EReal)) * ((1 / 8 : ℝ) : EReal)
        + (rb h ⟨min 512 (768 + R.val % 2048 - (R.val % 2048 / 64 * 64 + x.val)), by omega⟩ : EReal)
        = ((sc q k rb R h (R.val % 2048 / 64 * 64 + x.val) : ℝ) : EReal) := by
      unfold sc
      rw [EReal.coe_add, EReal.coe_mul, coe_sum]
      simp only [EReal.coe_mul]
    rw [e1]
    unfold masked
    simp only [hc]

/-- The result: the heads' attention with its row's mean square taken out, scaled by the gain `g`. -/
def out (g : Fin 512 → EReal) (R : Fin 16384) (h : Fin 8) (d : Fin 64) : EReal :=
  att q k v rb R h d
    * Ideal.rsqrt (Ideal.div (∑ x : Fin 512, att q k v rb R ⟨x.val / 64, by omega⟩ ⟨x.val % 64, by omega⟩
          * att q k v rb R ⟨x.val / 64, by omega⟩ ⟨x.val % 64, by omega⟩) (Ideal.ofBits .f32 0x44000000#32)
        + Ideal.ofBits .f32 0x358637BD#32) * g (col h d)

end Spec

end
-- ==== Proof.AttnKernel.lean ====
module

public import proofs.«01_k».proof.Proof.AttnTable
public import proofs.«01_k».proof.Proof.AttnSpec
public import Idealize.ShloMosaic.Lib.Pipeline.ValueKit

/-!
# The call's result, entry by entry

Point `t` of the grid stages rows `256 t …` of the queries and the keys and values of its own block and of the one and two
blocks before it, no block before the sequence's first.
-/

@[expose] public section

set_option maxRecDepth 16384

noncomputable section

namespace Cert.KernelIdeal.Attn

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- The block of rows each window of rows stages at a point. -/
theorem index_rows : ∀ t : Fin cfg0.N,
    (win0_0.index t 0 = t.val ∧ win0_1.index t 0 = t.val / 8 * 8 + (t.val % 8 - 2) ∧ win0_2.index t 0 = t.val / 8 * 8 + (t.val % 8 - 1)
      ∧ win0_3.index t 0 = t.val) ∧ win0_4.index t 0 = t.val / 8 * 8 + (t.val % 8 - 2) ∧ win0_5.index t 0 = t.val / 8 * 8 + (t.val % 8 - 1)
      ∧ win0_6.index t 0 = t.val ∧ win0_9.index t 0 = t.val :=
  (by decide +kernel : ∀ t : Fin grid0.N, _)

/-- Every other block coordinate is zero. -/
theorem index_zero : ∀ t : Fin cfg0.N,
    (win0_0.index t 1 = 0 ∧ win0_1.index t 1 = 0 ∧ win0_2.index t 1 = 0 ∧ win0_3.index t 1 = 0)
      ∧ (win0_4.index t 1 = 0 ∧ win0_5.index t 1 = 0 ∧ win0_6.index t 1 = 0 ∧ win0_9.index t 1 = 0)
      ∧ (win0_7.index t 0 = 0 ∧ win0_7.index t 1 = 0 ∧ win0_7.index t 2 = 0) ∧ win0_8.index t 0 = 0 ∧ win0_8.index t 1 = 0 :=
  (by decide +kernel : ∀ t : Fin grid0.N, _)

/-- Row `r` of the block of rows `b`. -/
def row (b : ℕ) (r : Fin 256) : Fin 16384 := ⟨(256 * b + r.val) % 16384, Nat.mod_lt _ (by decide)⟩

theorem row_ext {b : ℕ} {r : Fin 256} {x y z w : ℕ} {hx : x < 16384} {hy : y < 512} {c : Fin 512} (e1 : x = (256 * b + r.val) % 16384) (e2 : y = c.val) :
    (ix2 ⟨x, hx⟩ ⟨y, hy⟩ : S16384x512.Idx) = ix2 (row b r) c := by subst e1; subst e2; rfl

section
variable (c : Dev nD) (t : Fin cfg0.N) (r : Fin 256) (x : Fin 512)

theorem t_lt : t.val < 64 := lt_of_lt_of_eq t.isLt N_0

/-- An entry of a block of rows, given the block's place. -/
theorem emb_rows (A : (⟨S16384x512, .bf16⟩ : BufTy).Contents (Elt Ideal)) (i : S16384x512.Idx) (b : ℕ)
    (h0 : (i 0).val = b * 256 + 1 * r.val) (h1 : (i 1).val = 0 * 512 + 1 * x.val) (hb : b < 64) : A i = A (ix2 (row b r) x) := by
  refine congrArg A (funext fun a => Fin.ext ?_)
  match a with
  | ⟨0, _⟩ => exact h0.trans (by show _ = (256 * b + r.val) % 16384; omega)
  | ⟨1, _⟩ => exact h1.trans (by show _ = x.val; omega)

theorem iblk0 : iblk m c 0 t (ix2 r x) = m (c, Proc.tc.devRef main_arg0) (ix2 (row t.val r) x) := by
  have ht := t_lt t
  refine Eq.trans (emb_rows r x (V m c main_v0) (((cfg0.win 0).blk t).view.emb (ix2 r x)) t.val ?_ ?_ (by omega)) (congrFun (q_eq m c) _)
  · rw [← (index_rows t).1.1]; rfl
  · rw [← (index_zero t).1.1]; rfl

theorem iblk1 : iblk m c 1 t (ix2 r x) = m (c, Proc.tc.devRef main_arg1) (ix2 (row (t.val / 8 * 8 + (t.val % 8 - 2)) r) x) := by
  have ht := t_lt t
  refine Eq.trans (emb_rows r x (V m c main_v1) (((cfg0.win 1).blk t).view.emb (ix2 r x)) (t.val / 8 * 8 + (t.val % 8 - 2)) ?_ ?_ (by omega)) (congrFun (k_eq m c) _)
  · rw [← (index_rows t).1.2.1]; rfl
  · rw [← (index_zero t).1.2.1]; rfl

theorem iblk2 : iblk m c 2 t (ix2 r x) = m (c, Proc.tc.devRef main_arg1) (ix2 (row (t.val / 8 * 8 + (t.val % 8 - 1)) r) x) := by
  have ht := t_lt t
  refine Eq.trans (emb_rows r x (V m c main_v1) (((cfg0.win 2).blk t).view.emb (ix2 r x)) (t.val / 8 * 8 + (t.val % 8 - 1)) ?_ ?_ (by omega)) (congrFun (k_eq m c) _)
  · rw [← (index_rows t).1.2.2.1]; rfl
  · rw [← (index_zero t).1.2.2.1]; rfl

theorem iblk3 : iblk m c 3 t (ix2 r x) = m (c, Proc.tc.devRef main_arg1) (ix2 (row t.val r) x) := by
  have ht := t_lt t
  refine Eq.trans (emb_rows r x (V m c main_v1) (((cfg0.win 3).blk t).view.emb (ix2 r x)) t.val ?_ ?_ (by omega)) (congrFun (k_eq m c) _)
  · rw [← (index_rows t).1.2.2.2]; rfl
  · rw [← (index_zero t).1.2.2.2]; rfl

theorem iblk4 : iblk m c 4 t (ix2 r x) = m (c, Proc.tc.devRef main_arg2) (ix2 (row (t.val / 8 * 8 + (t.val % 8 - 2)) r) x) := by
  have ht := t_lt t
  refine Eq.trans (emb_rows r x (V m c main_v2) (((cfg0.win 4).blk t).view.emb (ix2 r x)) (t.val / 8 * 8 + (t.val % 8 - 2)) ?_ ?_ (by omega)) (congrFun (v_eq m c) _)
  · rw [← (index_rows t).2.1]; rfl
  · rw [← (index_zero t).2.1.1]; rfl

theorem iblk5 : iblk m c 5 t (ix2 r x) = m (c, Proc.tc.devRef main_arg2) (ix2 (row (t.val / 8 * 8 + (t.val % 8 - 1)) r) x) := by
  have ht := t_lt t
  refine Eq.trans (emb_rows r x (V m c main_v2) (((cfg0.win 5).blk t).view.emb (ix2 r x)) (t.val / 8 * 8 + (t.val % 8 - 1)) ?_ ?_ (by omega)) (congrFun (v_eq m c) _)
  · rw [← (index_rows t).2.2.1]; rfl
  · rw [← (index_zero t).2.1.2.1]; rfl

theorem iblk6 : iblk m c 6 t (ix2 r x) = m (c, Proc.tc.devRef main_arg2) (ix2 (row t.val r) x) := by
  have ht := t_lt t
  refine Eq.trans (emb_rows r x (V m c main_v2) (((cfg0.win 6).blk t).view.emb (ix2 r x)) t.val ?_ ?_ (by omega)) (congrFun (v_eq m c) _)
  · rw [← (index_rows t).2.2.2.1]; rfl
  · rw [← (index_zero t).2.1.2.2.1]; rfl

theorem iblk7 (h : Fin 8) (j : Fin 768) : iblk m c 7 t (ix3 h r j) = V m c main_v32 (ix3 h r j) := by
  show V m c main_v32 (((cfg0.win 7).blk t).view.emb (ix3 h r j)) = _
  refine congrArg (V m c main_v32) (funext fun a => Fin.ext ?_)
  match a with
  | ⟨0, _⟩ => show win0_7.index t 0 * 8 + 1 * h.val = h.val; rw [(index_zero t).2.2.1.1]; omega
  | ⟨1, _⟩ => show win0_7.index t 1 * 256 + 1 * r.val = r.val; rw [(index_zero t).2.2.1.2.1]; omega
  | ⟨2, _⟩ => show win0_7.index t 2 * 768 + 1 * j.val = j.val; rw [(index_zero t).2.2.1.2.2]; omega

theorem iblk8 : iblk m c 8 t (ix2 0 x) = V m c main_v34 (ix2 0 x) := by
  show V m c main_v34 (((cfg0.win 8).blk t).view.emb (ix2 0 x)) = _
  refine congrArg (V m c main_v34) (funext fun a => Fin.ext ?_)
  match a with
  | ⟨0, _⟩ => show win0_8.index t 0 * 1 + 1 * 0 = 0; rw [(index_zero t).2.2.2.1]
  | ⟨1, _⟩ => show win0_8.index t 1 * 512 + 1 * x.val = x.val; rw [(index_zero t).2.2.2.2]; omega

end

open Spec

section
variable (q k : Fin 16384 → Fin 512 → ℝ) (v : Fin 16384 → Fin 512 → EReal) (rel : Fin 8 → Fin 513 → ℝ) (g : Fin 512 → EReal)

/-- A block of results from its blocks of queries, keys, values and biases, over `n` keys. -/
theorem block_apply {n lo : ℕ} (w : Width n lo) (hl : lo + n = 768) (t : ℕ) (ht : t < 64) (hi : lo = 512 - 256 * (t % 8))
    (Q : FVec Ideal S256x512 .bf16) (K W : FVec Ideal (SKey n) .bf16) (B : FVec Ideal S8x256x768 .f32) (G : FVec Ideal S1x512 .f32)
    (hQ : ∀ r x, (Q (ix2 r x) : EReal) = (q (row t r) x : EReal))
    (hK : ∀ (r : Fin 256) (j : Fin n) x, (K (ix2 j x) : EReal) = (k (krow (row t r) (256 * (t % 8) + lo + j.val)) x : EReal))
    (hW : ∀ (r : Fin 256) (j : Fin n) x, (W (ix2 j x) : EReal) = v (krow (row t r) (256 * (t % 8) + lo + j.val)) x)
    (hB : ∀ (h : Fin 8) (r : Fin 256) (j : Fin 768), (B (ix3 h r j) : EReal)
      = if r.val / 64 ≤ j.val / 64 ∧ j.val / 64 ≤ r.val / 64 + 8 then (rel h ⟨min 512 (768 + r.val - j.val), by omega⟩ : EReal) else ⊥)
    (hG : ∀ x, (G (ix2 0 x) : EReal) = g x) (r : Fin 256) (h : Fin 8) (d : Fin 64) :
    (rows (heads w Q K W B) G (ix2 r (col h d)) : EReal) = out q k v rel g (row t r) h d := by
  have hr := r.isLt
  have hRv : (row t r).val = 256 * t + r.val := by show (256 * t + r.val) % 16384 = _; omega
  have hR : (row t r).val % 2048 - 256 * (t % 8) = r.val := by rw [hRv]; omega
  have hy : ∀ (h : Fin 8) (d : Fin 64), (heads w Q K W B (ix2 r (col h d)) : EReal) = att q k v rel (row t r) h d := by
    intro h d
    refine (heads_apply w hl Q K W B r h d _ (fun _ => rfl)).trans ?_
    refine of_block q k v rel (t % 8) (row t r) h d hl hi (by rw [hRv]; omega) _ _ (fun j => ?_) (fun j => hW r j _)
    refine congrArg₂ (· + ·) (Finset.sum_congr rfl fun e _ => ?_) (congrArg (· * _) ?_)
    · exact congrArg₂ (fun a b : EReal => a * _ * b) (hQ r _) (hK r j _)
    · refine (hB h r _).trans ?_
      simp only [hR]
  rw [rows_apply]
  unfold out
  rw [hy, hG]
  have hx : ∀ x : Fin 512, (heads w Q K W B (ix2 r x) : EReal) = att q k v rel (row t r) ⟨x.val / 64, by omega⟩ ⟨x.val % 64, by omega⟩ := by
    intro x
    rw [← hy]
    exact congrArg (fun y => (heads w Q K W B (ix2 r y) : EReal)) (Fin.ext (by show x.val = 64 * (x.val / 64) + x.val % 64; omega))
  simp only [hx]

end

/-- The arguments as the specification takes them: real queries, keys and biases. -/
structure Args (c : Dev nD) (q k : Fin 16384 → Fin 512 → ℝ) (rel : Fin 8 → Fin 513 → ℝ) : Prop where
  q : ∀ R x, (m (c, Proc.tc.devRef main_arg0) (ix2 R x) : EReal) = (q R x : EReal)
  k : ∀ R x, (m (c, Proc.tc.devRef main_arg1) (ix2 R x) : EReal) = (k R x : EReal)
  rel : ∀ h x, rb m c h x = (rel h x : EReal)

section
variable {m} {c : Dev nD} {q k : Fin 16384 → Fin 512 → ℝ} {rel : Fin 8 → Fin 513 → ℝ} (A : Args m c q k rel) (t : Fin cfg0.N)

/-- The values, by row and column. -/
def vals (m : (ℓ : Loc nD τ sig) → Buf (Elt Ideal) ℓ) (c : Dev nD) : Fin 16384 → Fin 512 → EReal :=
  fun R x => m (c, Proc.tc.devRef main_arg2) (ix2 R x)
/-- The gain, by column. -/
def gain (m : (ℓ : Loc nD τ sig) → Buf (Elt Ideal) ℓ) (c : Dev nD) : Fin 512 → EReal :=
  fun x => m (c, Proc.tc.devRef main_arg4) (ix2 0 x)

include A in
theorem hB_of : ∀ (h : Fin 8) (r : Fin 256) (j : Fin 768), (iblk m c 7 t (ix3 h r j) : EReal)
      = if r.val / 64 ≤ j.val / 64 ∧ j.val / 64 ≤ r.val / 64 + 8 then (rel h ⟨min 512 (768 + r.val - j.val), by omega⟩ : EReal) else ⊥ := by
  intro h r j
  rw [iblk7, table_eq]
  simp only [A.rel]

theorem hG_of : ∀ x, (iblk m c 8 t (ix2 0 x) : EReal) = gain m c x := fun x => (iblk8 m c t x).trans (g_eq m c x)

/-- A staged block's row is the row of its key. -/
theorem row_krow {b X : ℕ} (r : Fin 256) (j : Fin 256) (hX : 256 * b + j.val = t.val / 8 * 2048 + X - 512) (hX' : X < 2560) :
    row b j = krow (row t.val r) X := by
  have ht := t_lt t
  have hr := r.isLt
  refine Fin.ext ?_
  show (256 * b + j.val) % 16384 = ((256 * t.val + r.val) % 16384 / 2048 * 2048 + X - 512) % 16384
  have e : (256 * t.val + r.val) % 16384 / 2048 = t.val / 8 := by omega
  rw [e, hX]

include A in
theorem entry_A (h0 : t.val % 8 = 0) (r : Fin 256) (h : Fin 8) (d : Fin 64) :
    (rows (F := Ideal) (heads width256 (iblk m c 0 t) (iblk m c 3 t) (iblk m c 6 t) (iblk m c 7 t)) (iblk m c 8 t) (ix2 r (col h d)) : EReal)
      = out q k (vals m c) rel (gain m c) (row t.val r) h d := by
  refine block_apply q k (vals m c) rel (gain m c) width256 rfl t.val (t_lt t) (by omega) _ _ _ _ _
    (fun r x => (iblk0 m c t r x).trans (A.q _ _)) (fun r j x => ?_) (fun r j x => ?_) (hB_of A t) (hG_of t) r h d
  · rw [← row_krow t (b := t.val) r j (by omega) (by omega)]
    exact (iblk3 m c t j x).trans (A.k _ _)
  · rw [← row_krow t (b := t.val) r j (by omega) (by omega)]
    exact iblk6 m c t j x

include A in
theorem entry_B (h1 : t.val % 8 = 1) (r : Fin 256) (h : Fin 8) (d : Fin 64) :
    (rows (F := Ideal) (heads width512 (iblk m c 0 t) (cat2 (iblk m c 2 t) (iblk m c 3 t)) (cat2 (iblk m c 5 t) (iblk m c 6 t)) (iblk m c 7 t))
        (iblk m c 8 t) (ix2 r (col h d)) : EReal) = out q k (vals m c) rel (gain m c) (row t.val r) h d := by
  refine block_apply q k (vals m c) rel (gain m c) width512 rfl t.val (t_lt t) (by omega) _ _ _ _ _
    (fun r x => (iblk0 m c t r x).trans (A.q _ _)) (fun r j x => ?_) (fun r j x => ?_) (hB_of A t) (hG_of t) r h d
  · rw [cat2_apply]
    split
    · rw [← row_krow t (b := t.val / 8 * 8 + (t.val % 8 - 1)) r ⟨j.val, by assumption⟩ (by dsimp only; omega) (by omega)]
      exact (iblk2 m c t _ x).trans (A.k _ _)
    · rw [← row_krow t (b := t.val) r ⟨j.val - 256, by omega⟩ (by dsimp only; omega) (by omega)]
      exact (iblk3 m c t _ x).trans (A.k _ _)
  · rw [cat2_apply]
    split
    · rw [← row_krow t (b := t.val / 8 * 8 + (t.val % 8 - 1)) r ⟨j.val, by assumption⟩ (by dsimp only; omega) (by omega)]
      exact iblk5 m c t _ x
    · rw [← row_krow t (b := t.val) r ⟨j.val - 256, by omega⟩ (by dsimp only; omega) (by omega)]
      exact iblk6 m c t _ x

include A in
theorem entry_C (h2 : 2 ≤ t.val % 8) (r : Fin 256) (h : Fin 8) (d : Fin 64) :
    (rows (F := Ideal) (heads width768 (iblk m c 0 t) (cat3 (iblk m c 1 t) (iblk m c 2 t) (iblk m c 3 t))
        (cat3 (iblk m c 4 t) (iblk m c 5 t) (iblk m c 6 t)) (iblk m c 7 t))
        (iblk m c 8 t) (ix2 r (col h d)) : EReal) = out q k (vals m c) rel (gain m c) (row t.val r) h d := by
  refine block_apply q k (vals m c) rel (gain m c) width768 rfl t.val (t_lt t) (by omega) _ _ _ _ _
    (fun r x => (iblk0 m c t r x).trans (A.q _ _)) (fun r j x => ?_) (fun r j x => ?_) (hB_of A t) (hG_of t) r h d
  · rw [cat3_apply]
    split
    · rw [← row_krow t (b := t.val / 8 * 8 + (t.val % 8 - 2)) r ⟨j.val, by assumption⟩ (by dsimp only; omega) (by omega)]
      exact (iblk1 m c t _ x).trans (A.k _ _)
    split
    · rw [← row_krow t (b := t.val / 8 * 8 + (t.val % 8 - 1)) r ⟨j.val - 256, by omega⟩ (by dsimp only; omega) (by omega)]
      exact (iblk2 m c t _ x).trans (A.k _ _)
    · rw [← row_krow t (b := t.val) r ⟨j.val - 512, by omega⟩ (by dsimp only; omega) (by omega)]
      exact (iblk3 m c t _ x).trans (A.k _ _)
  · rw [cat3_apply]
    split
    · rw [← row_krow t (b := t.val / 8 * 8 + (t.val % 8 - 2)) r ⟨j.val, by assumption⟩ (by dsimp only; omega) (by omega)]
      exact iblk4 m c t _ x
    split
    · rw [← row_krow t (b := t.val / 8 * 8 + (t.val % 8 - 1)) r ⟨j.val - 256, by omega⟩ (by dsimp only; omega) (by omega)]
      exact iblk5 m c t _ x
    · rw [← row_krow t (b := t.val) r ⟨j.val - 512, by omega⟩ (by dsimp only; omega) (by omega)]
      exact iblk6 m c t _ x

/-- The whole result. -/
def G (q k : Fin 16384 → Fin 512 → ℝ) (rel : Fin 8 → Fin 513 → ℝ) (m : (ℓ : Loc nD τ sig) → Buf (Elt Ideal) ℓ) (c : Dev nD) :
    (⟨S16384x512, .bf16⟩ : BufTy).Contents (Elt Ideal) :=
  fun i => out q k (vals m c) rel (gain m c) (i 0) ⟨(i 1).val / 64, by have := (i 1).isLt; simp at this; omega⟩ ⟨(i 1).val % 64, by omega⟩

include A in
/-- What a point writes back is its block of the whole result. -/
theorem flushed_eq : (dats m 0 c).flushed 9 t = ((cfg0.win 9).blk t).view.read (Elt Ideal) (G q k rel m c) := by
  have ht := t_lt t
  have key : ∀ X : FVec Ideal S256x512 .bf16,
      (∀ r h d, (X (ix2 r (col h d)) : EReal) = out q k (vals m c) rel (gain m c) (row t.val r) h d) →
      (cfg0.win 9).cut (grid0.coords t) X = ((cfg0.win 9).blk t).view.read (Elt Ideal) (G q k rel m c) := by
    intro X hX
    funext j
    show X j = G q k rel m c (((cfg0.win 9).blk t).view.emb j)
    obtain ⟨r, x, rfl⟩ : ∃ (r : Fin 256) (x : Fin 512), j = ix2 r x := ⟨j 0, j 1, by funext a; fin_cases a <;> rfl⟩
    rw [emb_rows r x (G q k rel m c) (((cfg0.win 9).blk t).view.emb (ix2 r x)) t.val (by rw [← (index_rows t).2.2.2.2]; rfl)
      (by rw [← (index_zero t).2.1.2.2.2]; rfl) ht]
    refine Eq.trans ?_ (hX r ⟨x.val / 64, by omega⟩ ⟨x.val % 64, by omega⟩)
    exact congrArg (fun y => (X (ix2 r y) : EReal)) (Fin.ext (by show x.val = 64 * (x.val / 64) + x.val % 64; omega))
  by_cases h0 : t.val % 8 = 0
  · rw [Value.flushed9_A m c t h0 (by omega) (by omega), out_A]
    exact key _ (entry_A A t h0)
  by_cases h1 : t.val % 8 = 1
  · rw [Value.flushed9_B m c t h0 h1 (by omega), out_B]
    exact key _ (entry_B A t h1)
  · rw [Value.flushed9_C m c t h0 h1 (by omega), out_C]
    exact key _ (entry_C A t (by omega))

include A in
/-- The array of results after the run. -/
theorem final_eq : (dats m 0 c).arrAt 9 cfg0.N = G q k rel m c :=
  (dats m 0 c).arrAt_eq_of_covers 9 _ (by decide +kernel) fun t _ y => congrFun (flushed_eq A t) y

end

end Cert.KernelIdeal.Attn

end
-- ==== Proof.RefTerm.lean ====
module

public import proofs.«01_k».proof.Proof.Gen.ReferenceIdeal.Run

/-!
# The reference's result, in stages

The plain program's composed term, cut where the mathematics cuts it: the keys (or values) of every chunk's band, the biases of
a band, the scores, the probabilities, their products with the values, the rows' normalisation.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem

variable {F : FTy → Type} [FloatOps F]

/-- Place `64 n + x` of chunk `n`'s band in the padded sequence. -/
def place : IVec S32x576 32 :=
  addi (broadcastInDim S32x576 ![0, 1] bcast_S32x1_S32x576_0_1
      (muli (broadcastInDim S32x1 ![0] bcast_S32_S32x1_0 (iotaInDim S32 32 0)) (broadcastInDim S32x1 ![] bcast_S_S32x1 (constantI S_ 32 64#32))))
    (broadcastInDim S32x576 ![0, 1] bcast_S1x576_S32x576_0_1 (broadcastInDim S1x576 ![1] bcast_S576_S1x576_1 (iotaInDim S576 32 0)))

/-- The places as indices, one counted from the end if negative. -/
def placeIdx : IVec S32x576x1 32 :=
  broadcastInDim S32x576x1 ![0, 1] bcast_S32x576_S32x576x1_0_1
    (select (cmpi .slt place (broadcastInDim S32x576 ![] bcast_S_S32x576 (constantI S_ 32 0#32)))
      (addi place (broadcastInDim S32x576 ![] bcast_S_S32x576 (constantI S_ 32 2560#32))) place)

/-- The keys (or values) of every chunk's band. -/
def band (A : FVec F S16384x512 .f32) : FVec F S8x32x576x8x64 .f32 :=
  Host.gather gather_S8x2560x8x64_S32x576x1_S8x32x576x8x64_034_1_n_n_1_2_81864
    (pad S8x2560x8x64 ![0, 512, 0, 0] ![0, 0, 0, 0] ![0, 0, 0, 0] (shapeCast _ A shapeCasts_S16384x512_S8x2048x8x64)
      (sitofp .f32 (constantI S_ 32 0#32)) pads_S8x2048x8x64_S8x2560x8x64_000_51200_000_000 h_S_) placeIdx

/-- A query's distance to a key of its band, clipped and made an index. -/
def dist : IVec S64x576 32 :=
  addi (minsi (broadcastInDim S64x576 ![] bcast_S_S64x576 (id (constantI S_ 32 256#32)))
      (maxsi (broadcastInDim S64x576 ![] bcast_S_S64x576 (id (constantI S_ 32 4294967040#32)))
        (subi (broadcastInDim S64x576 ![0, 1] bcast_S64x1_S64x576_0_1
            (addi (broadcastInDim S64x1 ![] bcast_S_S64x1 (constantI S_ 32 512#32)) (broadcastInDim S64x1 ![0] bcast_S64_S64x1_0 (iotaInDim S64 32 0))))
          (broadcastInDim S64x576 ![0, 1] bcast_S1x576_S64x576_0_1 (broadcastInDim S1x576 ![1] bcast_S576_S1x576_1 (iotaInDim S576 32 0))))))
    (broadcastInDim S64x576 ![] bcast_S_S64x576 (constantI S_ 32 256#32))

def distIdx : IVec S64x576x1 32 :=
  broadcastInDim S64x576x1 ![0, 1] bcast_S64x576_S64x576x1_0_1
    (select (cmpi .slt dist (broadcastInDim S64x576 ![] bcast_S_S64x576 (constantI S_ 32 0#32)))
      (addi dist (broadcastInDim S64x576 ![] bcast_S_S64x576 (constantI S_ 32 513#32))) dist)

/-- The biases of a chunk and its band. -/
def biases (r : FVec F S1x8x513 .f32) : FVec F S8x64x576 .f32 :=
  Host.gather gather_S8x513_S64x576x1_S8x64x576_0_1_n_n_1_2_81 (shapeCast _ r shapeCasts_S1x8x513_S8x513) distIdx

/-- The scores, `-inf` at keys before the sequence. -/
def scores (q k : FVec F S16384x512 .f32) (r : FVec F S1x8x513 .f32) : FVec F S8x32x8x64x576 .f32 :=
  select (broadcastInDim S8x32x8x64x576 ![0, 1, 2, 3, 4] bcast_S1x32x1x1x576_S8x32x8x64x576_0_1_2_3_4
      (broadcastInDim S1x32x1x1x576 ![1, 4] bcast_S32x576_S1x32x1x1x576_1_4
        (cmpi .sge (subi place (broadcastInDim S32x576 ![] bcast_S_S32x576 (constantI S_ 32 512#32)))
          (broadcastInDim S32x576 ![] bcast_S_S32x576 (constantI S_ 32 0#32)))))
    (addf (mulf (Host.dotGeneral dot_S8x32x64x8x64_S8x32x576x8x64_S8x32x8x64x576_4_4_2_2_013_013 none
          (shapeCast _ (shapeCast _ q shapeCasts_S16384x512_S8x2048x8x64) shapeCasts_S8x2048x8x64_S8x32x64x8x64) (band k))
        (broadcastInDim S8x32x8x64x576 ![] bcast_S_S8x32x8x64x576 (constant S_ .f32 0x3E000000#32)))
      (broadcastInDim S8x32x8x64x576 ![0, 1, 2, 3, 4] bcast_S1x1x8x64x576_S8x32x8x64x576_0_1_2_3_4
        (broadcastInDim S1x1x8x64x576 ![2, 3, 4] bcast_S8x64x576_S1x1x8x64x576_2_3_4 (biases r))))
    (broadcastInDim S8x32x8x64x576 ![] bcast_S_S8x32x8x64x576 (id (constant S_ .f32 0xFF800000#32)))

/-- The exponentials of the scores less their maximum. -/
def exps (s : FVec F S8x32x8x64x576 .f32) : FVec F S8x32x8x64x576 .f32 :=
  Host.exp (subf s (broadcastInDim S8x32x8x64x576 ![0, 1, 2, 3, 4] bcast_S8x32x8x64x1_S8x32x8x64x576_0_1_2_3_4
    (broadcastInDim S8x32x8x64x1 ![0, 1, 2, 3] bcast_S8x32x8x64_S8x32x8x64x1_0_1_2_3
      (maximumf (broadcastInDim S8x32x8x64 ![] bcast_S_S8x32x8x64 (constant S_ .f32 0xFF800000#32))
        (Host.reduce FloatOps.maximumf s (constant S_ .f32 0xFF800000#32) reducesTo_S8x32x8x64x576_S8x32x8x64_d4 h_S_)))))

/-- The probabilities. -/
def probs (e : FVec F S8x32x8x64x576 .f32) : FVec F S8x32x8x64x576 .f32 :=
  Host.divf e (broadcastInDim S8x32x8x64x576 ![0, 1, 2, 3, 4] bcast_S8x32x8x64x1_S8x32x8x64x576_0_1_2_3_4
    (broadcastInDim S8x32x8x64x1 ![0, 1, 2, 3] bcast_S8x32x8x64_S8x32x8x64x1_0_1_2_3
      (Host.reduceAdd e (constant S_ .f32 0x00000000#32) reducesTo_S8x32x8x64x576_S8x32x8x64_d4 h_S_)))

/-- The attention, heads by chunk. -/
def mix (v : FVec F S16384x512 .f32) (p : FVec F S8x32x8x64x576 .f32) : FVec F S8x32x8x64x64 .f32 :=
  Host.dotGeneral dot_S8x32x576x8x64_S8x32x8x64x576_S8x32x8x64x64_2_4_4_3_013_012 none (band v) p

/-- The attention, a row's heads side by side. -/
def flat (y : FVec F S8x32x8x64x64 .f32) : FVec F S8x2048x512 .f32 :=
  shapeCast _ (transpose S8x32x64x8x64 [0, 1, 4, 2, 3] y transposes_S8x32x8x64x64_S8x32x64x8x64_0_1_4_2_3) shapeCasts_S8x32x64x8x64_S8x2048x512

/-- The rows' mean square taken out, the rows scaled by `g`. -/
def norm (y : FVec F S8x2048x512 .f32) (g : FVec F S1x512 .f32) : FVec F S16384x512 .bf16 :=
  truncf .bf16 (shapeCast _ (mulf (mulf y (broadcastInDim S8x2048x512 ![0, 1, 2] bcast_S8x2048x1_S8x2048x512_0_1_2
      (Host.rsqrt (addf (Host.divf (broadcastInDim S8x2048x1 ![0, 1] bcast_S8x2048_S8x2048x1_0_1
          (Host.reduceAdd (mulf y y) (constant S_ .f32 0x00000000#32) reducesTo_S8x2048x512_S8x2048_d2 h_S_))
        (broadcastInDim S8x2048x1 ![] bcast_S_S8x2048x1 (constant S_ .f32 0x44000000#32)))
        (broadcastInDim S8x2048x1 ![] bcast_S_S8x2048x1 (constant S_ .f32 0x358637BD#32))))))
    (broadcastInDim S8x2048x512 ![0, 1, 2] bcast_S1x1x512_S8x2048x512_0_1_2
      (broadcastInDim S1x1x512 ![2] bcast_S512_S1x1x512_2 (shapeCast _ g shapeCasts_S1x512_S512)))) shapeCasts_S8x2048x512_S16384x512) bitsLt_bf16_f32

theorem res_eq (m : (ℓ : Loc nD τ sig) → Buf (Elt F) ℓ) (c : Dev nD) :
    Value.res_main_v90 m c = norm (flat (mix (m ((c.tc : Thread nD τ).loc main_arg2)) (probs (exps (scores
      (m ((c.tc : Thread nD τ).loc main_arg0)) (m ((c.tc : Thread nD τ).loc main_arg1)) (m ((c.tc : Thread nD τ).loc main_arg3)))))))
      (m ((c.tc : Thread nD τ).loc main_arg4)) := rfl

end Cert.ReferenceIdeal.Attn

end
-- ==== Proof.AttnRef.lean ====
module

public import proofs.«01_k».proof.Proof.RefTerm
public import proofs.«01_k».proof.Proof.AttnRead
public import proofs.«01_k».proof.Proof.AttnSpec

/-!
# The reference's result, entry by entry

The band of chunk `n` reads the padded keys at places `64 n … 64 n + 575`; place `p` is row `p - 512` of the sequence, zero
before it. A score there, its bias read at the clipped distance, is the one the specification gives.
-/

@[expose] public section

set_option maxRecDepth 16384

noncomputable section

namespace Cert.ReferenceIdeal.Attn

open Cert.ReferenceIdeal Cert.ReferenceIdeal.Gen Idealize.ShloMosaic Idealize.ShloMosaic.TcCoe Idealize.SL.Sem
open scoped BigOperators

open Spec (col krow att out)

/-- A small word read signed is the number it was made from. -/
theorem word_toNat {p : ℕ} (hp : p < 2560) : (BitVec.ofNat 32 p).toInt.toNat = p := by
  rw [BitVec.toInt_eq_toNat_of_lt (by rw [BitVec.toNat_ofNat]; omega), BitVec.toNat_ofNat]
  omega

theorem gather_band {α : Type} (X : S8x2560x8x64.Idx → α) (idx : IVec S32x576x1 32) (b : Fin 8) (n : Fin 32) (x : Fin 576)
    (h : Fin 8) (e : Fin 64) {p : ℕ} (hp : p < 2560) (hi : idx (ix3 n x 0) = BitVec.ofNat 32 p) :
    Host.gather gather_S8x2560x8x64_S32x576x1_S8x32x576x8x64_034_1_n_n_1_2_81864 X idx (ix5 b n x h e) = X (ix4 b ⟨p, hp⟩ h e) := by
  unfold Host.gather
  congr 1
  funext a
  refine Fin.ext ?_
  generalize hd : gather_S8x2560x8x64_S32x576x1_S8x32x576x8x64_034_1_n_n_1_2_81864 = d
  show d.start (ix5 b n x h e) idx a + d.batchCoord (ix5 b n x h e) a + d.offCoord (ix5 b n x h e) a = _
  rw [GatherDims.batchCoord_eq_zero _ _ _ (by subst hd; exact List.not_mem_nil)]
  subst hd
  have hsi : gather_S8x2560x8x64_S32x576x1_S8x32x576x8x64_034_1_n_n_1_2_81864.siIdx (ix5 b n x h e) ⟨0, by decide⟩ = ix3 n x 0 := by
    funext b; refine Fin.ext ?_
    match b with
    | ⟨0, _⟩ => rfl
    | ⟨1, _⟩ => rfl
    | ⟨2, _⟩ => rfl
  match a with
  | ⟨0, _⟩ => exact (Nat.zero_add _)
  | ⟨1, _⟩ =>
    show min (idx (gather_S8x2560x8x64_S32x576x1_S8x32x576x8x64_034_1_n_n_1_2_81864.siIdx (ix5 b n x h e) ⟨0, by decide⟩)).toInt.toNat (2560 - 1) = p
    rw [hsi, hi, word_toNat hp]
    omega
  | ⟨2, _⟩ => exact (Nat.zero_add _)
  | ⟨3, _⟩ => exact (Nat.zero_add _)

theorem gather_rel {α : Type} (X : S8x513.Idx → α) (idx : IVec S64x576x1 32) (h : Fin 8) (w : Fin 64) (x : Fin 576)
    {p : ℕ} (hp : p < 513) (hi : idx (ix3 w x 0) = BitVec.ofNat 32 p) :
    Host.gather gather_S8x513_S64x576x1_S8x64x576_0_1_n_n_1_2_81 X idx (ix3 h w x) = X (ix2 h ⟨p, hp⟩) := by
  unfold Host.gather
  congr 1
  funext a
  refine Fin.ext ?_
  generalize hd : gather_S8x513_S64x576x1_S8x64x576_0_1_n_n_1_2_81 = d
  show d.start (ix3 h w x) idx a + d.batchCoord (ix3 h w x) a + d.offCoord (ix3 h w x) a = _
  rw [GatherDims.batchCoord_eq_zero _ _ _ (by subst hd; exact List.not_mem_nil)]
  subst hd
  have hsi : gather_S8x513_S64x576x1_S8x64x576_0_1_n_n_1_2_81.siIdx (ix3 h w x) ⟨0, by decide⟩ = ix3 w x 0 := by
    funext b; refine Fin.ext ?_
    match b with
    | ⟨0, _⟩ => rfl
    | ⟨1, _⟩ => rfl
    | ⟨2, _⟩ => rfl
  match a with
  | ⟨0, _⟩ => exact (Nat.zero_add _)
  | ⟨1, _⟩ =>
    show min (idx (gather_S8x513_S64x576x1_S8x64x576_0_1_n_n_1_2_81.siIdx (ix3 h w x) ⟨0, by decide⟩)).toInt.toNat (513 - 1) = p
    rw [hsi, hi, word_toNat (by omega)]
    omega

theorem sup_row (s : FVec Ideal S8x32x8x64x576 .f32) (b : Fin 8) (n : Fin 32) (h : Fin 8) (w : Fin 64) :
    Host.reduce FloatOps.maximumf s (constant S_ .f32 0xFF800000#32) reducesTo_S8x32x8x64x576_S8x32x8x64_d4 h_S_ (ix4 b n h w)
      = (Finset.univ : Finset (Fin 576)).fold (max : EReal → EReal → EReal) (Ideal.ofBits .f32 0xFF800000#32) fun x => s (ix5 b n h w x) := by
  have hr : S8x32x8x64x576.Reduces [4] S8x32x8x64 := by decide
  refine (Host.reduce_eq_fold_single (max : EReal → EReal → EReal) s _ _ hr _ _).trans ?_
  refine congrArg (Finset.fold max _ · Finset.univ) (funext fun x => congrArg s (funext fun a => Fin.ext ?_))
  match a with
  | ⟨0, _⟩ => rfl
  | ⟨1, _⟩ => rfl
  | ⟨2, _⟩ => rfl
  | ⟨3, _⟩ => rfl
  | ⟨4, _⟩ => rfl

set_option backward.isDefEq.respectTransparency false in
theorem placeIdx_eq (n : Fin 32) (x : Fin 576) : placeIdx (ix3 n x 0) = BitVec.ofNat 32 (n.val * 64 + x.val) := by
  unfold placeIdx place
  pointwise
  revert n x
  decide +kernel

set_option backward.isDefEq.respectTransparency false in
theorem distIdx_eq (w : Fin 64) (x : Fin 576) : distIdx (ix3 w x 0) = BitVec.ofNat 32 (min 512 (768 + w.val - x.val)) := by
  unfold distIdx dist
  pointwise
  simp only [id, constantI]
  revert w x
  decide +kernel

theorem visible (n : Fin 32) (x : Fin 576) :
    IntOp.cmpi .sge (IntOp.subi (IntOp.addi (IntOp.muli (BitVec.ofNat 32 n.val) 64#32) (BitVec.ofNat 32 x.val)) 512#32) 0#32
      = if 512 ≤ n.val * 64 + x.val then 1#1 else 0#1 := by
  revert n x
  decide +kernel

set_option backward.isDefEq.respectTransparency false in
theorem pad_apply (A : FVec Ideal S16384x512 .f32) (b : Fin 8) (p : Fin 2560) (h : Fin 8) (e : Fin 64) :
    (pad S8x2560x8x64 ![0, 512, 0, 0] ![0, 0, 0, 0] ![0, 0, 0, 0] (shapeCast _ A shapeCasts_S16384x512_S8x2048x8x64)
      (sitofp (F := Ideal) .f32 (constantI S_ 32 0#32)) pads_S8x2048x8x64_S8x2560x8x64_000_51200_000_000 h_S_ (ix4 b p h e) : EReal)
      = if h1 : 512 ≤ p.val ∧ p.val - 512 < 2048 then (A (ix2 ⟨b.val * 2048 + (p.val - 512), by omega⟩ ⟨h.val * 64 + e.val, by omega⟩) : EReal)
        else (FloatOps.sitofp .f32 (0#32 : BitVec 32) : Ideal .f32) := by
  pointwise

/-- A band read at a place of the sequence. -/
theorem band_apply (A : FVec Ideal S16384x512 .f32) (R : Fin 16384) (x : Fin 576) (h : Fin 8) (e : Fin 64)
    (hx : 512 ≤ R.val % 2048 / 64 * 64 + x.val) :
    (band A (ix5 ⟨R.val / 2048, by omega⟩ ⟨R.val % 2048 / 64, by omega⟩ x h e) : EReal)
      = A (ix2 (krow R (R.val % 2048 / 64 * 64 + x.val)) (col h e)) := by
  unfold band
  rw [gather_band _ _ _ _ _ _ _ (by show R.val % 2048 / 64 * 64 + x.val < 2560; omega) (placeIdx_eq _ _), pad_apply]
  rw [dif_pos ⟨hx, by show R.val % 2048 / 64 * 64 + x.val - 512 < 2048; omega⟩]
  refine congrArg A (congrArg₂ ix2 (Fin.ext ?_) (Fin.ext ?_))
  · show R.val / 2048 * 2048 + (R.val % 2048 / 64 * 64 + x.val - 512) = (R.val / 2048 * 2048 + (R.val % 2048 / 64 * 64 + x.val) - 512) % 16384
    omega
  · show h.val * 64 + e.val = 64 * h.val + e.val
    omega

set_option backward.isDefEq.respectTransparency false in
theorem rel_cast (r : FVec Ideal S1x8x513 .f32) (h : Fin 8) (j : Fin 513) :
    (shapeCast _ r shapeCasts_S1x8x513_S8x513 : FVec Ideal S8x513 .f32) (ix2 h j) = r (ix3 0 h j) := by
  pointwise

theorem biases_apply (r : FVec Ideal S1x8x513 .f32) (h : Fin 8) (w : Fin 64) (x : Fin 576) :
    biases r (ix3 h w x) = r (ix3 0 h ⟨min 512 (768 + w.val - x.val), by omega⟩) := by
  unfold biases
  rw [gather_rel _ _ _ _ _ (by omega) (distIdx_eq w x), rel_cast]

theorem eighth : Ideal.ofBits .f32 0x3E000000#32 = ((1 / 8 : ℝ) : EReal) := by
  simp [Ideal.ofBits, Ideal.ieee]
  rw [← EReal.coe_mul]
  norm_num

set_option backward.isDefEq.respectTransparency false in
theorem scores_read (q k : FVec Ideal S16384x512 .f32) (r : FVec Ideal S1x8x513 .f32) (b : Fin 8) (n : Fin 32) (h : Fin 8) (w : Fin 64)
    (x : Fin 576) : (scores q k r (ix5 b n h w x) : EReal)
      = Scalar.select (IntOp.cmpi .sge (IntOp.subi (place (ix2 n x)) 512#32) 0#32)
        (((∑ e : Fin 64, (q (ix2 ⟨b.val * 2048 + n.val * 64 + w.val, by omega⟩ ⟨h.val * 64 + e.val, by omega⟩) : EReal) * (band k (ix5 b n x h e) : EReal))
            * Ideal.ofBits .f32 0x3E000000#32 + (biases r (ix3 h w x) : EReal) : EReal))
        (Ideal.ofBits .f32 0xFF800000#32) := by
  unfold scores
  pointwise
  rfl

set_option backward.isDefEq.respectTransparency false in
theorem place_read (n : Fin 32) (x : Fin 576) :
    place (ix2 n x) = IntOp.addi (IntOp.muli (BitVec.ofNat 32 n.val) 64#32) (BitVec.ofNat 32 x.val) := by
  unfold place
  pointwise

/-- A score: `-inf` before the sequence. -/
theorem scores_apply (q k : FVec Ideal S16384x512 .f32) (r : FVec Ideal S1x8x513 .f32) (R : Fin 16384) (h : Fin 8) (x : Fin 576) :
    (scores q k r (ix5 ⟨R.val / 2048, by omega⟩ ⟨R.val % 2048 / 64, by omega⟩ h ⟨R.val % 64, by omega⟩ x) : EReal)
      = if 512 ≤ R.val % 2048 / 64 * 64 + x.val then
          (∑ e : Fin 64, (q (ix2 R (col h e)) : EReal) * (k (ix2 (krow R (R.val % 2048 / 64 * 64 + x.val)) (col h e)) : EReal)) * ((1 / 8 : ℝ) : EReal)
            + (r (ix3 0 h ⟨min 512 (768 + R.val % 2048 - (R.val % 2048 / 64 * 64 + x.val)), by omega⟩) : EReal) else ⊥ := by
  rw [scores_read, place_read, visible, KernelIdeal.Attn.ninf_f32, eighth]
  by_cases hx : 512 ≤ R.val % 2048 / 64 * 64 + x.val
  · rw [if_pos hx, if_pos hx]
    refine congrArg₂ (· + ·) (congrArg (· * _) (Finset.sum_congr rfl fun e _ => congrArg₂ (· * ·) (congrArg q (congrArg₂ ix2 (Fin.ext ?_) (Fin.ext ?_))) ?_)) ?_
    · show R.val / 2048 * 2048 + R.val % 2048 / 64 * 64 + R.val % 64 = R.val
      omega
    · show h.val * 64 + e.val = 64 * h.val + e.val
      omega
    · exact band_apply k R x h e hx
    · rw [biases_apply]
      refine congrArg r (congrArg (ix3 0 h) (Fin.ext ?_))
      show min 512 (768 + R.val % 64 - x.val) = min 512 (768 + R.val % 2048 - (R.val % 2048 / 64 * 64 + x.val))
      omega
  · rw [if_neg hx, if_neg hx]
    rfl

/-- The maximum of a query's scores. -/
def top (s : FVec Ideal S8x32x8x64x576 .f32) : FVec Ideal S8x32x8x64 .f32 :=
  Host.reduce FloatOps.maximumf s (constant S_ .f32 0xFF800000#32) reducesTo_S8x32x8x64x576_S8x32x8x64_d4 h_S_

theorem top_apply (s : FVec Ideal S8x32x8x64x576 .f32) (b : Fin 8) (n : Fin 32) (h : Fin 8) (w : Fin 64) :
    (top s (ix4 b n h w) : EReal) = Finset.univ.sup fun x : Fin 576 => (s (ix5 b n h w x) : EReal) := by
  unfold top
  rw [sup_row, KernelIdeal.Attn.ninf_f32, KernelIdeal.Attn.fold_max_sup]

set_option backward.isDefEq.respectTransparency false in
theorem exps_read (s : FVec Ideal S8x32x8x64x576 .f32) (t : FVec Ideal S8x32x8x64 .f32) (b : Fin 8) (n : Fin 32) (h : Fin 8) (w : Fin 64) (x : Fin 576) :
    (Host.exp (subf s (broadcastInDim S8x32x8x64x576 ![0, 1, 2, 3, 4] bcast_S8x32x8x64x1_S8x32x8x64x576_0_1_2_3_4
    (broadcastInDim S8x32x8x64x1 ![0, 1, 2, 3] bcast_S8x32x8x64_S8x32x8x64x1_0_1_2_3
      (maximumf (broadcastInDim S8x32x8x64 ![] bcast_S_S8x32x8x64 (constant S_ .f32 0xFF800000#32)) t)))) (ix5 b n h w x) : EReal)
      = Ideal.exp ((s (ix5 b n h w x) : EReal) - max (Ideal.ofBits .f32 0xFF800000#32) (t (ix4 b n h w))) := by
  pointwise

theorem exps_apply (s : FVec Ideal S8x32x8x64x576 .f32) (b : Fin 8) (n : Fin 32) (h : Fin 8) (w : Fin 64) (x : Fin 576) :
    (exps s (ix5 b n h w x) : EReal)
      = Ideal.exp ((s (ix5 b n h w x) : EReal) - Finset.univ.sup fun x : Fin 576 => (s (ix5 b n h w x) : EReal)) := by
  refine (exps_read s (top s) b n h w x).trans ?_
  rw [KernelIdeal.Attn.ninf_f32, top_apply]
  exact congrArg (fun y => Ideal.exp ((s (ix5 b n h w x) : EReal) - y)) (max_eq_right bot_le)

set_option backward.isDefEq.respectTransparency false in
theorem probs_apply (e : FVec Ideal S8x32x8x64x576 .f32) (b : Fin 8) (n : Fin 32) (h : Fin 8) (w : Fin 64) (x : Fin 576) :
    (probs e (ix5 b n h w x) : EReal) = Ideal.div (e (ix5 b n h w x)) (∑ x : Fin 576, (e (ix5 b n h w x) : EReal)) := by
  unfold probs
  pointwise

set_option backward.isDefEq.respectTransparency false in
theorem mix_read (v : FVec Ideal S16384x512 .f32) (p : FVec Ideal S8x32x8x64x576 .f32) (b : Fin 8) (n : Fin 32) (h : Fin 8) (d w : Fin 64) :
    (mix v p (ix5 b n h d w) : EReal) = ∑ x : Fin 576, (band v (ix5 b n x h d) : EReal) * (p (ix5 b n h w x) : EReal) := by
  unfold mix
  pointwise

set_option backward.isDefEq.respectTransparency false in
theorem flat_apply (y : FVec Ideal S8x32x8x64x64 .f32) (b : Fin 8) (p : Fin 2048) (X : Fin 512) :
    (flat y (ix3 b p X) : EReal)
      = y (ix5 b ⟨p.val / 64, by omega⟩ ⟨X.val / 64, by omega⟩ ⟨X.val % 64, by omega⟩ ⟨p.val % 64, by omega⟩) := by
  unfold flat
  pointwise

set_option backward.isDefEq.respectTransparency false in
theorem norm_apply (y : FVec Ideal S8x2048x512 .f32) (g : FVec Ideal S1x512 .f32) (R : Fin 16384) (X : Fin 512) :
    (norm y g (ix2 R X) : EReal)
      = (y (ix3 ⟨R.val / 2048, by omega⟩ ⟨R.val % 2048, by omega⟩ X) : EReal)
        * Ideal.rsqrt (Ideal.div (∑ x : Fin 512, (y (ix3 ⟨R.val / 2048, by omega⟩ ⟨R.val % 2048, by omega⟩ x) : EReal)
              * (y (ix3 ⟨R.val / 2048, by omega⟩ ⟨R.val % 2048, by omega⟩ x) : EReal)) (Ideal.ofBits .f32 0x44000000#32)
            + Ideal.ofBits .f32 0x358637BD#32) * g (ix2 0 X) := by
  unfold norm
  pointwise

section
variable (A0 A1 A2 : FVec Ideal S16384x512 .f32) (A3 : FVec Ideal S1x8x513 .f32) (A4 : FVec Ideal S1x512 .f32)
  (q k : Fin 16384 → Fin 512 → ℝ) (rel : Fin 8 → Fin 513 → ℝ)
  (h0 : ∀ R x, (A0 (ix2 R x) : EReal) = (q R x : EReal)) (h1 : ∀ R x, (A1 (ix2 R x) : EReal) = (k R x : EReal))
  (h3 : ∀ h x, (A3 (ix3 0 h x) : EReal) = (rel h x : EReal))
include h0 h1 h3

/-- The attention of a row's head is the specification's. -/
theorem mix_apply (R : Fin 16384) (h : Fin 8) (d : Fin 64) :
    (mix A2 (probs (exps (scores A0 A1 A3))) (ix5 ⟨R.val / 2048, by omega⟩ ⟨R.val % 2048 / 64, by omega⟩ h d ⟨R.val % 64, by omega⟩) : EReal)
      = att q k (fun R x => A2 (ix2 R x)) rel R h d := by
  rw [mix_read]
  simp only [probs_apply, exps_apply]
  refine Spec.of_band q k (fun R x => A2 (ix2 R x)) rel R h d (fun x => _) (fun x => _) (fun x => ?_) (fun x hx => band_apply A2 R x h d hx)
  simp only [scores_apply, h0, h1, h3]

/-- The flat attention's entry. -/
theorem flat_mix (R : Fin 16384) (X : Fin 512) :
    (flat (mix A2 (probs (exps (scores A0 A1 A3)))) (ix3 ⟨R.val / 2048, by omega⟩ ⟨R.val % 2048, by omega⟩ X) : EReal)
      = att q k (fun R x => A2 (ix2 R x)) rel R ⟨X.val / 64, by omega⟩ ⟨X.val % 64, by omega⟩ := by
  rw [flat_apply, ← mix_apply A0 A1 A2 A3 q k rel h0 h1 h3]
  refine congrArg (mix A2 _) (congrArg (ix5 _ _ _ _) (Fin.ext ?_))
  show R.val % 2048 % 64 = R.val % 64
  omega

/-- The result's entry is the specification's. -/
theorem out_apply (R : Fin 16384) (X : Fin 512) :
    (norm (flat (mix A2 (probs (exps (scores A0 A1 A3))))) A4 (ix2 R X) : EReal)
      = out q k (fun R x => A2 (ix2 R x)) rel (fun x => A4 (ix2 0 x)) R ⟨X.val / 64, by omega⟩ ⟨X.val % 64, by omega⟩ := by
  rw [norm_apply]
  simp only [flat_mix A0 A1 A2 A3 q k rel h0 h1 h3]
  unfold out
  refine congrArg (_ * A4 ·) (congrArg (ix2 0) (Fin.ext ?_))
  show X.val = 64 * (X.val / 64) + X.val % 64
  omega

end

end Cert.ReferenceIdeal.Attn

end
-- ==== Proof.Finite.lean ====
module

public import proofs.«01_k».proof.Proof.Gen.Pre_finite_scores
public import Idealize.ShloMosaic.Lib.ReduceAll
public import Idealize.ShloMosaic.Lib.Pointwise

/-!
# What the precondition says

The printed predicate is all ones: every query, key and bias is a real number.
-/

@[expose] public section

set_option maxRecDepth 16384

noncomputable section

namespace Cert.Pre_finite_scores.Real

open Idealize.ShloMosaic Idealize.SL.Sem Cert.Pre_finite_scores

theorem inf_f32 : Ideal.ofBits .f32 0x7F800000#32 = (⊤ : EReal) := by simp [Ideal.ofBits, Ideal.ieee]

theorem and_one {a b : BitVec 1} (h : IntOp.andi a b = 1#1) : a = 1#1 ∧ b = 1#1 := by
  revert a b
  decide

instance : Subsingleton S_.Idx := ⟨fun a b => funext fun i => i.elim0⟩

/-- An extended real whose size is below infinity is a real. -/
theorem real_of_lt {x : EReal} (h : (FloatOps.cmpf .olt (FloatOps.absf (x : Ideal .f32)) (FloatOps.ofBits .f32 0x7F800000#32 : Ideal .f32)) = 1#1) :
    ((x.toReal : ℝ) : EReal) = x := by
  have e : BitVec.ofBool (decide ((max x (-x) : EReal) < Ideal.ofBits .f32 0x7F800000#32)) = 1#1 := h
  rw [inf_f32] at e
  have hlt : max x (-x) < ⊤ := by
    by_contra hn
    rw [decide_eq_false hn] at e
    exact absurd e (by decide)
  refine EReal.coe_toReal (fun h => ?_) (fun h => ?_)
  · subst h
    simp at hlt
  · subst h
    simp at hlt

theorem reals (A0 A1 A2 : FVec Ideal S16384x512 .f32) (A3 : FVec Ideal S1x8x513 .f32) (A4 : FVec Ideal S1x512 .f32)
    (h : fn (F := Ideal) A0 A1 A2 A3 A4 = fun _ => 1#1) :
    (∀ i, (((A0 i : EReal).toReal : ℝ) : EReal) = A0 i) ∧ (∀ i, (((A1 i : EReal).toReal : ℝ) : EReal) = A1 i)
      ∧ (∀ i, (((A3 i : EReal).toReal : ℝ) : EReal) = A3 i) := by
  have h0 := congrFun h ix0
  unfold fn at h0
  obtain ⟨h01, h3⟩ := and_one h0
  obtain ⟨h0, h1⟩ := and_one h01
  exact ⟨fun i => real_of_lt (Host.reduce_andi_all _ _ _ _ _ h0 i), fun i => real_of_lt (Host.reduce_andi_all _ _ _ _ _ h1 i),
    fun i => real_of_lt (Host.reduce_andi_all _ _ _ _ _ h3 i)⟩

end Cert.Pre_finite_scores.Real

end
-- ==== Proof.ProjSpec.lean ====
module

public import Idealize.ShloMosaic.PureOps.Ideal
public import proofs.«01_k».proof.Proof.Softmax

/-!
# The arithmetic of the input projection

A row of the layer's input is divided by its root mean square, scaled and shifted by the modulation, and multiplied by the
weights.  The kernel splits the columns of `dt` into a leading and a remaining part; over the extended reals the remaining
part of a real number is zero.
-/

@[expose] public section

noncomputable section

namespace Proj

open Idealize.ShloMosaic Softmax
open scoped BigOperators

/-- A row normalised by its root mean square, with its gain, its scale and its shift. -/
def row (x g a s : Fin 1024 → EReal) (d : Fin 1024) : EReal :=
  x d * Ideal.rsqrt (Ideal.div (∑ e, x e * x e) (Ideal.ofBits .f32 0x44800000#32) + Ideal.ofBits .f32 0x358637BD#32) * g d
    * (Ideal.ofBits .f32 0x3F800000#32 + a d) + s d

/-- A row's product with a column of weights. -/
def dot (h w : Fin 1024 → EReal) : EReal := ∑ d, h d * w d

theorem width_f32 : Ideal.ofBits .f32 0x44800000#32 = ((1024 : ℝ) : EReal) := by
  simp [Ideal.ofBits, Ideal.ieee]
  rw [← EReal.coe_mul]
  norm_num

theorem one_f32 : Ideal.ofBits .f32 0x3F800000#32 = ((1 : ℝ) : EReal) := by
  simp [Ideal.ofBits, Ideal.ieee]
  rw [← EReal.coe_mul]
  norm_num

theorem two_f32 : Ideal.ofBits .f32 0x40000000#32 = ((2 : ℝ) : EReal) := by
  simp [Ideal.ofBits, Ideal.ieee]
  rw [← EReal.coe_mul]
  norm_num

theorem eps_f32 : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-- A row of real numbers stays a row of real numbers. -/
theorem row_real (x g a s : Fin 1024 → ℝ) (d : Fin 1024) :
    ∃ r : ℝ, row (fun e => (x e : EReal)) (fun e => (g e : EReal)) (fun e => (a e : EReal)) (fun e => (s e : EReal)) d = (r : EReal) := by
  obtain ⟨e, he, h⟩ := eps_f32
  unfold row
  rw [h, width_f32, one_f32]
  have h1 : (∑ e, (x e : EReal) * (x e : EReal)) = ((∑ e, x e * x e : ℝ) : EReal) := by
    rw [coe_sum]
    exact Finset.sum_congr rfl fun _ _ => (EReal.coe_mul _ _).symm
  have h2 : 0 ≤ ∑ e, x e * x e := Finset.sum_nonneg fun i _ => mul_self_nonneg _
  have h3 : Ideal.div ((∑ e, x e * x e : ℝ) : EReal) ((1024 : ℝ) : EReal) = (((∑ e, x e * x e) * (1024 : ℝ)⁻¹ : ℝ) : EReal) := by
    unfold Ideal.div
    rw [if_neg (by norm_num), ← EReal.coe_inv, ← EReal.coe_mul]
  rw [h1, h3, ← EReal.coe_add]
  have h4 : 0 < (∑ e, x e * x e) * (1024 : ℝ)⁻¹ + e := by positivity
  have h5 : ∃ r : ℝ, Ideal.rsqrt (((∑ e, x e * x e) * (1024 : ℝ)⁻¹ + e : ℝ) : EReal) = (r : EReal) := by
    refine ⟨(Real.sqrt ((∑ e, x e * x e) * (1024 : ℝ)⁻¹ + e))⁻¹, ?_⟩
    exact (if_neg (not_lt.mpr h4.le)).trans (if_neg h4.ne')
  obtain ⟨r, hr⟩ := h5
  rw [hr, ← EReal.coe_mul, ← EReal.coe_mul, ← EReal.coe_add, ← EReal.coe_mul, ← EReal.coe_add]
  exact ⟨_, rfl⟩

/-- The square of an infinite number is infinite; no square is negative. -/
theorem square_nonneg (x : EReal) : 0 ≤ x * x := by
  induction x with
  | bot => simp
  | top => simp
  | coe r => rw [← EReal.coe_mul]; exact_mod_cast mul_self_nonneg r

theorem square_infinite (x : EReal) (h : ¬ ∃ r : ℝ, x = (r : EReal)) : x * x = ⊤ := by
  induction x with
  | bot => simp
  | top => simp
  | coe r => exact absurd ⟨r, rfl⟩ h

/-- A row with an infinite entry is divided to nothing, and its shift remains; so every row is one of real numbers if the gain, the
scale and the shift are. -/
theorem row_finite (x : Fin 1024 → EReal) (g a s : Fin 1024 → ℝ) (d : Fin 1024) :
    ∃ r : ℝ, row x (fun e => (g e : EReal)) (fun e => (a e : EReal)) (fun e => (s e : EReal)) d = (r : EReal) := by
  by_cases hx : ∀ e, ∃ r : ℝ, x e = (r : EReal)
  · choose r hr using hx
    obtain rfl : x = fun e => (r e : EReal) := funext hr
    exact row_real r g a s d
  · obtain ⟨d0, h0⟩ := not_forall.mp hx
    obtain ⟨e, _, h⟩ := eps_f32
    have h1 : (∑ e, x e * x e) = ⊤ := by
      refine top_le_iff.mp ?_
      rw [← square_infinite _ h0]
      exact Finset.single_le_sum (f := fun e => x e * x e) (fun i _ => square_nonneg _) (Finset.mem_univ d0)
    have h2 : Ideal.div ⊤ ((1024 : ℝ) : EReal) = ⊤ := by
      unfold Ideal.div
      rw [if_neg (by norm_num), ← EReal.coe_inv]
      exact EReal.top_mul_of_pos (by exact_mod_cast (by norm_num : (0 : ℝ) < (1024 : ℝ)⁻¹))
    have h3 : Ideal.rsqrt ⊤ = 0 := rfl
    unfold row
    rw [h, width_f32, h1, h2, EReal.top_add_coe, h3, mul_zero, zero_mul, zero_mul, zero_add]
    exact ⟨s d, rfl⟩

theorem sub_self_real (r : ℝ) : (r : EReal) - (r : EReal) = 0 := by
  rw [← EReal.coe_sub, sub_self, EReal.coe_zero]

/-- The remaining parts of a row and of its weights add nothing. -/
theorem dot_split (h w : Fin 1024 → EReal) (hh : ∀ d, ∃ r : ℝ, h d = (r : EReal)) (hw : ∀ d, ∃ r : ℝ, w d = (r : EReal)) :
    dot h w + dot (fun d => h d - h d) w + dot h (fun d => w d - w d) = dot h w := by
  have e1 : ∀ d, h d - h d = 0 := fun d => by obtain ⟨r, e⟩ := hh d; rw [e, sub_self_real]
  have e2 : ∀ d, w d - w d = 0 := fun d => by obtain ⟨r, e⟩ := hw d; rw [e, sub_self_real]
  unfold dot
  simp only [e1, e2, zero_mul, mul_zero, Finset.sum_const_zero, add_zero]

/-- The scale of the queries, in two steps and in one. -/
theorem scale_eq (p : EReal) :
    Ideal.div (p * ((1 / 8 : ℝ) : EReal)) (Ideal.log (Ideal.ofBits .f32 0x40000000#32)) = p * ((1 / 8 * (Real.log 2)⁻¹ : ℝ) : EReal) := by
  have hl : Real.log 2 ≠ 0 := (Real.log_pos (by norm_num)).ne'
  have e : Ideal.log ((2 : ℝ) : EReal) = ((Real.log 2 : ℝ) : EReal) := if_neg (by norm_num)
  rw [two_f32, e]
  unfold Ideal.div
  rw [if_neg (by exact_mod_cast hl), ← EReal.coe_inv, mul_assoc, ← EReal.coe_mul]

end Proj

end
-- ==== Proof.ProjRead.lean ====
module

public import proofs.«01_k».proof.Proof.ProjSpec
public import proofs.«01_k».proof.Proof.Gen.Kernel2Ideal.Value
public import Idealize.ShloMosaic.Lib.Pointwise
public import Idealize.ShloMosaic.Lib.MatmulPlain
public import Idealize.ShloMosaic.Lib.StableHlo.ReadAt
public import Idealize.ShloMosaic.Lib.Pipeline.ValueKit

/-!
# The input projection's blocks, entry by entry

What the body stores at a point, as products of the point's normalised rows with columns of weights, and what the call's
prepared arguments hold.
-/

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open scoped BigOperators

open _root_.Proj (dot)

theorem zero_f32 : (FloatOps.ofBits .f32 0x00000000#32 : Ideal .f32) = (0 : EReal) := by
  show Ideal.ofBits .f32 0x00000000#32 = 0
  simp [Ideal.ofBits, Ideal.ieee]

/-- A product of 512 rows with `n` columns of weights, added to nothing. -/
theorem product_apply {n : ℕ} (h : FVec Ideal S512x1024 .bf16) (w : FVec Ideal ⟨2, ![1024, n]⟩ .bf16) (r : Fin 512) (j : Fin n) :
    (FloatOps.matmul (F := Ideal) (DotDims.plain 512 1024 n) none h w (constant ⟨2, ![512, n]⟩ .f32 0x00000000#32) (ix2 r j) : EReal)
      = dot (fun d => h (ix2 r d)) (fun d => w (ix2 d j)) := by
  refine Eq.trans (b := (FloatOps.matmul (F := Ideal) (DotDims.plain 512 1024 n) none h w
    (constant ⟨2, ![512, n]⟩ .f32 0x00000000#32) (ValueIdx.ix2 r j) : EReal)) rfl ?_
  rw [Ideal.matmul_plain_apply]
  exact (congrArg (· + _) zero_f32).trans (zero_add _)

section
variable (v0 : Vec Ideal S1x512x1024 .f32) (v12 : Vec Ideal S1x1024 .f32) (v16 v22 : Vec Ideal S1x1x1024 .f32)

set_option backward.isDefEq.respectTransparency false in
/-- The normalised rows. -/
theorem rows_apply (r : Fin 512) (d : Fin 1024) : (k0_pay2 v0 v12 v16 v22 (ix2 r d) : EReal)
    = _root_.Proj.row (fun e => v0 (ix3 0 r e)) (fun e => v12 (ix2 0 e)) (fun e => v16 (ix3 0 0 e)) (fun e => v22 (ix3 0 0 e)) d := by
  unfold k0_pay2 _root_.Proj.row
  pointwise

theorem z_apply (w : Vec Ideal S1024x1536 .bf16) (r : Fin 512) (j : Fin 1536) : (k0_pay4 v0 v12 v16 v22 w (ix2 r j) : EReal)
    = dot (fun d => k0_pay2 v0 v12 v16 v22 (ix2 r d)) (fun d => w (ix2 d j)) := by
  unfold k0_pay4
  rw [shapeCast_self]
  exact product_apply (n := 1536) _ _ r j

theorem xbc_apply (w : Vec Ideal S1024x2560 .bf16) (r : Fin 512) (j : Fin 2560) : (k0_pay6 (k0_pay5 v0 v12 v16 v22 w) (ix2 r j) : EReal)
    = dot (fun d => k0_pay2 v0 v12 v16 v22 (ix2 r d)) (fun d => w (ix2 d j)) := by
  unfold k0_pay6 k0_pay5
  rw [shapeCast_self]
  exact product_apply (n := 2560) _ _ r j

end

theorem q_apply (h : FVec Ideal S512x1024 .bf16) (w : Vec Ideal S1024x512 .bf16) (r j : Fin 512) : (k0_pay7 h w (ix2 r j) : EReal)
    = dot (fun d => h (ix2 r d)) (fun d => w (ix2 d j)) * ((1 / 8 * (Real.log 2)⁻¹ : ℝ) : EReal) := by
  unfold k0_pay7
  rw [shapeCast_self]
  exact congrArg (fun p : EReal => p * ((1 / 8 * (Real.log 2)⁻¹ : ℝ) : EReal)) (product_apply (n := 512) h w r j)

theorem k_apply (h : FVec Ideal S512x1024 .bf16) (w : Vec Ideal S1024x512 .bf16) (r j : Fin 512) : (k0_pay8 h w (ix2 r j) : EReal)
    = dot (fun d => h (ix2 r d)) (fun d => w (ix2 d j)) := by
  unfold k0_pay8
  rw [shapeCast_self]
  exact product_apply (n := 512) h w r j

theorem v_apply (h : FVec Ideal S512x1024 .bf16) (w : Vec Ideal S1024x512 .bf16) (r j : Fin 512) : (k0_pay9 h w (ix2 r j) : EReal)
    = dot (fun d => h (ix2 r d)) (fun d => w (ix2 d j)) := by
  unfold k0_pay9
  rw [shapeCast_self]
  exact product_apply (n := 512) h w r j

/-- The columns of `dt`: leading rows by leading weights, remaining rows by leading weights, leading rows by remaining weights. -/
theorem dt_apply (h : FVec Ideal S512x1024 .f32) (w u : Vec Ideal S1024x128 .bf16) (r : Fin 512) (j : Fin 128) :
    (k0_pay1 (k0_pay11 h) (k0_pay12 h w w) u (ix2 r j) : EReal)
      = dot (fun d => h (ix2 r d)) (fun d => w (ix2 d j)) + dot (fun d => (h (ix2 r d) : EReal) - (h (ix2 r d) : EReal)) (fun d => w (ix2 d j))
        + dot (fun d => h (ix2 r d)) (fun d => u (ix2 d j)) := by
  unfold k0_pay1 k0_pay12 k0_pay11 k0_pay10
  simp only [shapeCast_self]
  refine congrArg₂ (fun a b : EReal => a + b) (congrArg₂ (fun a b : EReal => a + b) ?_ ?_) ?_
  · exact product_apply (n := 128) _ w r j
  · exact product_apply (n := 128) _ w r j
  · exact product_apply (n := 128) _ u r j

variable (m : (ℓ : Loc nD τ sig) → Buf (Elt Ideal) ℓ) (c : Dev nD)

/-- The layer's input, its modulation, its gain and its weights. -/
abbrev X : (⟨S8x2048x1024, .f32⟩ : BufTy).Contents (Elt Ideal) := m (c, Proc.tc.devRef main_arg0)
abbrev M : (⟨S8x6144, .f32⟩ : BufTy).Contents (Elt Ideal) := m (c, Proc.tc.devRef main_arg1)
abbrev Gn : (⟨S1x1024, .f32⟩ : BufTy).Contents (Elt Ideal) := m (c, Proc.tc.devRef main_arg2)
abbrev W : (⟨S1x1024x5656, .f32⟩ : BufTy).Contents (Elt Ideal) := m (c, Proc.tc.devRef main_arg3)

theorem mod_eq (b : Fin 8) (s : Fin 6) (d : Fin 1024) :
    (V m c main_v0 (ix3 b s d) : EReal) = M m c (ix2 b ⟨s.val * 1024 + d.val, by omega⟩) := by
  unfold V
  after_reads_at

theorem gain_eq (d : Fin 1024) : (V m c main_v13 (ix2 0 d) : EReal) = Gn m c (ix2 0 d) := by
  unfold V
  after_reads_at

/-- The weights but those of `dt`. -/
theorem weights_eq (d : Fin 1024) (j : Fin 5632) : (V m c main_v5 (ix2 d j) : EReal)
    = W m c (ix3 0 d ⟨if j.val < 4096 then j.val else j.val + 24, by split <;> omega⟩) := by
  have hj := j.isLt
  unfold V
  after_reads_at
  split
  · after_reads_at
  · after_reads_at
    exact congrArg (W m c) (congrArg (ix3 0 d) (Fin.ext (by show 4120 + (j.val - 4096) = j.val + 24; omega)))

theorem sitofp_zero : (FloatOps.sitofp .f32 (0#32 : BitVec 32) : Ideal .f32) = (0 : EReal) := by
  show (((0#32 : BitVec 32).toInt : ℝ) : EReal) = 0
  simp

/-- The weights of `dt`, zero past its 24 columns. -/
def dtW (d : Fin 1024) (j : Fin 128) : EReal := if h : j.val < 24 then W m c (ix3 0 d ⟨4096 + j.val, by omega⟩) else 0

theorem dt_hi (d : Fin 1024) (j : Fin 128) : (V m c main_v8 (ix2 d j) : EReal) = dtW m c d j := by
  unfold V dtW
  rw [← sitofp_zero]
  after_reads_at

theorem dt_lo (d : Fin 1024) (j : Fin 128) : (V m c main_v11 (ix2 d j) : EReal) = dtW m c d j - dtW m c d j := by
  unfold V dtW
  rw [← sitofp_zero]
  after_reads_at

end Cert.Kernel2Ideal.Proj

end
-- ==== Proof.ProjKernel.lean ====
module

public import proofs.«01_k».proof.Proof.ProjRead

/-!
# The arrays that the input projection leaves

Point `t` of the grid stages rows `512 t …` of the input, all of them of the sequence `t / 4`, with that sequence's modulation.
-/

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)
open scoped BigOperators

open _root_.Proj (dot)

variable (m : (ℓ : Loc nD τ sig) → Buf (Elt Ideal) ℓ) (c : Dev nD)

theorem index_in : ∀ t : Fin cfg0.N,
    (win0_0.index t 0 = t.val / 4 ∧ win0_0.index t 1 = t.val % 4 ∧ win0_0.index t 2 = 0)
      ∧ (win0_1.index t 0 = t.val / 4 ∧ win0_1.index t 1 = 0 ∧ win0_1.index t 2 = 0)
      ∧ (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = 0) :=
  (by decide +kernel : ∀ t : Fin grid0.N, _)

theorem index_out : ∀ t : Fin cfg0.N,
    (win0_6.index t 0 = t.val ∧ win0_6.index t 1 = 0) ∧ (win0_7.index t 0 = t.val ∧ win0_7.index t 1 = 0)
      ∧ (win0_8.index t 0 = t.val ∧ win0_8.index t 1 = 0) ∧ (win0_9.index t 0 = t.val ∧ win0_9.index t 1 = 0)
      ∧ (win0_10.index t 0 = t.val ∧ win0_10.index t 1 = 0) ∧ (win0_11.index t 0 = t.val ∧ win0_11.index t 1 = 0) :=
  (by decide +kernel : ∀ t : Fin grid0.N, _)

theorem t_lt (t : Fin cfg0.N) : t.val < 32 := lt_of_lt_of_eq t.isLt N_0

/-- Row `R` of the normalised input, the rows of all sequences one after the other. -/
def h (R : Fin 16384) (d : Fin 1024) : EReal :=
  _root_.Proj.row (fun e => X m c (ix3 ⟨R.val / 2048, by omega⟩ ⟨R.val % 2048, by omega⟩ e)) (fun e => Gn m c (ix2 0 e))
    (fun e => M m c (ix2 ⟨R.val / 2048, by omega⟩ ⟨1024 + e.val, by omega⟩)) (fun e => M m c (ix2 ⟨R.val / 2048, by omega⟩ ⟨e.val, by omega⟩)) d

/-- Its product with column `j` of the weights. -/
def proj (R : Fin 16384) (j : Fin 5656) : EReal := dot (h m c R) (fun d => W m c (ix3 0 d j))

/-- Row `r` of point `t`. -/
def row (t : Fin cfg0.N) (r : Fin 512) : Fin 16384 := ⟨512 * t.val + r.val, by have := t_lt t; omega⟩

section
variable (t : Fin cfg0.N) (r : Fin 512)

theorem iblk0 (d : Fin 1024) : iblk m c 0 t (ix3 0 r d)
    = X m c (ix3 ⟨(row t r).val / 2048, by omega⟩ ⟨(row t r).val % 2048, by omega⟩ d) := by
  have ht := t_lt t
  have hr := r.isLt
  refine Eq.trans (b := V m c main_arg0 (((cfg0.win 0).blk t).view.emb (ix3 0 r d))) rfl ?_
  rw [V_main_arg0]
  refine congrArg (X m c) (funext fun a => Fin.ext ?_)
  match a with
  | ⟨0, _⟩ => show win0_0.index t 0 * 1 + 1 * 0 = (512 * t.val + r.val) / 2048; rw [(index_in t).1.1]; omega
  | ⟨1, _⟩ => show win0_0.index t 1 * 512 + 1 * r.val = (512 * t.val + r.val) % 2048; rw [(index_in t).1.2.1]; omega
  | ⟨2, _⟩ => show win0_0.index t 2 * 1024 + 1 * d.val = d.val; rw [(index_in t).1.2.2]; omega

theorem iblk1 (s : Fin 6) (d : Fin 1024) : (iblk m c 1 t (ix3 0 s d) : EReal)
    = M m c (ix2 ⟨(row t r).val / 2048, by omega⟩ ⟨s.val * 1024 + d.val, by omega⟩) := by
  have ht := t_lt t
  have hr := r.isLt
  rw [← mod_eq]
  show V m c main_v0 (((cfg0.win 1).blk t).view.emb (ix3 0 s d)) = _
  refine congrArg (V m c main_v0) (funext fun a => Fin.ext ?_)
  match a with
  | ⟨0, _⟩ => show win0_1.index t 0 * 1 + 1 * 0 = (512 * t.val + r.val) / 2048; rw [(index_in t).2.1.1]; omega
  | ⟨1, _⟩ => show win0_1.index t 1 * 6 + 1 * s.val = s.val; rw [(index_in t).2.1.2.1]; omega
  | ⟨2, _⟩ => show win0_1.index t 2 * 1024 + 1 * d.val = d.val; rw [(index_in t).2.1.2.2]; omega

theorem iblk2 (d : Fin 1024) : (iblk m c 2 t (ix2 0 d) : EReal) = Gn m c (ix2 0 d) := by
  rw [← gain_eq]
  show V m c main_v13 (((cfg0.win 2).blk t).view.emb (ix2 0 d)) = _
  refine congrArg (V m c main_v13) (funext fun a => Fin.ext ?_)
  match a with
  | ⟨0, _⟩ => show win0_2.index t 0 * 1 + 1 * 0 = 0; rw [(index_in t).2.2.1.1]
  | ⟨1, _⟩ => show win0_2.index t 1 * 1024 + 1 * d.val = d.val; rw [(index_in t).2.2.1.2]; omega

/-- An array staged whole. -/
theorem emb_whole {n : ℕ} (A : (⟨2, ![1024, n]⟩ : Shape).Idx → EReal) (i : (⟨2, ![1024, n]⟩ : Shape).Idx) (d : Fin 1024) (j : Fin n)
    {b0 b1 : ℕ} (e0 : b0 = 0) (e1 : b1 = 0) (h0 : (i 0).val = b0 * 1024 + 1 * d.val) (h1 : (i 1).val = b1 * n + 1 * j.val) :
    A i = A (ix2 d j) := by
  subst e0
  subst e1
  refine congrArg A (funext fun a => Fin.ext ?_)
  match a with
  | ⟨0, _⟩ => exact h0.trans (by show _ = d.val; omega)
  | ⟨1, _⟩ => exact h1.trans (by show _ = j.val; omega)

theorem iblk3 (d : Fin 1024) (j : Fin 5632) : (iblk m c 3 t (ix2 d j) : EReal)
    = W m c (ix3 0 d ⟨if j.val < 4096 then j.val else j.val + 24, by split <;> omega⟩) := by
  rw [← weights_eq]
  exact emb_whole (V m c main_v5) (((cfg0.win 3).blk t).view.emb (ix2 d j)) d j (index_in t).2.2.2.1.1 (index_in t).2.2.2.1.2 rfl rfl

theorem iblk4 (d : Fin 1024) (j : Fin 128) : (iblk m c 4 t (ix2 d j) : EReal) = dtW m c d j := by
  rw [← dt_hi]
  exact emb_whole (V m c main_v8) (((cfg0.win 4).blk t).view.emb (ix2 d j)) d j (index_in t).2.2.2.2.1.1 (index_in t).2.2.2.2.1.2 rfl rfl

theorem iblk5 (d : Fin 1024) (j : Fin 128) : (iblk m c 5 t (ix2 d j) : EReal) = dtW m c d j - dtW m c d j := by
  rw [← dt_lo]
  exact emb_whole (V m c main_v11) (((cfg0.win 5).blk t).view.emb (ix2 d j)) d j (index_in t).2.2.2.2.2.1 (index_in t).2.2.2.2.2.2 rfl rfl

theorem hz2 : (![0, 0] : Fin 2 → Nat) = fun _ => 0 := funext fun a => by fin_cases a <;> rfl
theorem hz3 : (![0, 0, 0] : Fin 3 → Nat) = fun _ => 0 := funext fun a => by fin_cases a <;> rfl

/-- The rows a point normalises. -/
abbrev rows : FVec Ideal S512x1024 .f32 :=
  k0_pay2 (View.ld (Val := Elt Ideal) (e' := .f32) (iblk m c 0 t) r0_0) (View.ld (Val := Elt Ideal) (e' := .f32) (iblk m c 2 t) r0_1)
    (View.ld (Val := Elt Ideal) (e' := .f32) (iblk m c 1 t) r0_2) (View.ld (Val := Elt Ideal) (e' := .f32) (iblk m c 1 t) r0_3)

theorem rows_eq (d : Fin 1024) : (rows m c t (ix2 r d) : EReal) = h m c (row t r) d := by
  unfold rows
  rw [rows_apply, View.ld_unit_zero (S := S1x512x1024) hz3, View.ld_unit_zero (S := S1x1024) hz2]
  unfold h
  have e1 : ∀ (s : ℕ) (hs : s < 6) (H) (e : Fin 1024), (View.ld (Val := Elt Ideal) (e' := .f32) (iblk m c 1 t)
      (Rect.unit (s := S1x6x1024) ![0, s, 0] S1x1x1024.size H) (ix3 0 0 e) : EReal) = iblk m c 1 t (ix3 0 ⟨s, hs⟩ e) := by
    intro s hs H e
    refine congrArg (iblk m c 1 t) (funext fun a => Fin.ext ?_)
    match a with
    | ⟨0, _⟩ => rfl
    | ⟨1, _⟩ => rfl
    | ⟨2, _⟩ => show 0 + 1 * e.val = e.val; omega
  simp only [e1 1 (by decide), e1 0 (by decide), iblk0, iblk2, iblk1 m c t r]
  congr 1
  · funext e
    exact congrArg (fun x => M m c (ix2 _ x)) (Fin.ext (by show 0 * 1024 + e.val = e.val; omega))

/-- A point's product with columns `o …` of the staged weights. -/
theorem product_eq {n : ℕ} (o : ℕ) (ho : o + n ≤ 5632) (H) (j : Fin n) (J : Fin 5656)
    (hJ : J.val = if o + j.val < 4096 then o + j.val else o + j.val + 24) :
    dot (fun d => rows m c t (ix2 r d)) (fun d => View.ld (Val := Elt Ideal) (e' := .bf16) (iblk m c 3 t)
      (Rect.unit (s := S1024x5632) ![0, o] (⟨2, ![1024, n]⟩ : Shape).size H) (ix2 d j)) = proj m c (row t r) J := by
  unfold proj
  congr 1
  · funext d
    exact rows_eq m c t r d
  · funext d
    refine Eq.trans (b := (iblk m c 3 t (ix2 d ⟨o + j.val, by omega⟩) : EReal)) ?_ ?_
    · refine congrArg (iblk m c 3 t) (funext fun a => Fin.ext ?_)
      match a with
      | ⟨0, _⟩ => show 0 + 1 * d.val = d.val; omega
      | ⟨1, _⟩ => show o + 1 * j.val = o + j.val; omega
    · rw [iblk3]
      exact congrArg (fun x => W m c (ix3 0 d x)) (Fin.ext hJ.symm)

end

/-- A block of a result is the block of the array `G`, if every entry is. -/
theorem block_of {n : ℕ} {Y : (⟨2, ![512, n]⟩ : Shape).Idx → EReal} (G : (⟨2, ![16384, n]⟩ : Shape).Idx → EReal) (t : Fin cfg0.N)
    (f : (⟨2, ![512, n]⟩ : Shape).Idx → (⟨2, ![16384, n]⟩ : Shape).Idx)
    {b0 b1 : ℕ} (e0 : b0 = t.val) (e1 : b1 = 0)
    (h0 : ∀ j, (f j 0).val = b0 * 512 + 1 * (j 0).val) (h1 : ∀ j, (f j 1).val = b1 * n + 1 * (j 1).val)
    (hY : ∀ (r : Fin 512) (j : Fin n), Y (ix2 r j) = G (ix2 (row t r) j)) (j : (⟨2, ![512, n]⟩ : Shape).Idx) : Y j = G (f j) := by
  subst e0
  subst e1
  obtain ⟨r, x, rfl⟩ : ∃ (r : Fin 512) (x : Fin n), j = ix2 r x := ⟨j 0, j 1, by funext a; fin_cases a <;> rfl⟩
  refine (hY r x).trans (congrArg G (funext fun a => Fin.ext ?_))
  match a with
  | ⟨0, _⟩ => exact Eq.trans (by show 512 * t.val + r.val = t.val * 512 + 1 * r.val; omega) (h0 (ix2 r x)).symm
  | ⟨1, _⟩ => exact Eq.trans (by show x.val = 0 * n + 1 * x.val; omega) (h1 (ix2 r x)).symm

/-- The arrays of results: `z`, `xbc`, `q` in its scaled units, `k`, `v` and `dt` with zeros past its columns. -/
def zA : (⟨S16384x1536, .bf16⟩ : BufTy).Contents (Elt Ideal) := fun i => proj m c (i 0) ⟨(i 1).val, by have := (i 1).isLt; simp at this; omega⟩
def xbcA : (⟨S16384x2560, .bf16⟩ : BufTy).Contents (Elt Ideal) := fun i => proj m c (i 0) ⟨1536 + (i 1).val, by have := (i 1).isLt; simp at this; omega⟩
def qA : (⟨S16384x512, .bf16⟩ : BufTy).Contents (Elt Ideal) := fun i =>
  proj m c (i 0) ⟨4120 + (i 1).val, by have := (i 1).isLt; simp at this; omega⟩ * ((1 / 8 * (Real.log 2)⁻¹ : ℝ) : EReal)
def kA : (⟨S16384x512, .bf16⟩ : BufTy).Contents (Elt Ideal) := fun i => proj m c (i 0) ⟨4632 + (i 1).val, by have := (i 1).isLt; simp at this; omega⟩
def vA : (⟨S16384x512, .bf16⟩ : BufTy).Contents (Elt Ideal) := fun i => proj m c (i 0) ⟨5144 + (i 1).val, by have := (i 1).isLt; simp at this; omega⟩
def dtA : (⟨S16384x128, .f32⟩ : BufTy).Contents (Elt Ideal) := fun i =>
  if H : (i 1).val < 24 then proj m c (i 0) ⟨4096 + (i 1).val, by omega⟩ else 0

theorem final_z : (dats m 0 c).arrAt 6 cfg0.N = zA m c :=
  (dats m 0 c).arrAt_eq_of_covers 6 _ (by decide +kernel) fun t _ y => by
    refine Eq.trans (congrFun (Value.flushed6 m c t) y) (block_of (Y := out0_6 (iblk m c 0 t) (iblk m c 1 t) (iblk m c 2 t) (iblk m c 3 t)
      (iblk m c 4 t) (iblk m c 5 t)) (zA m c) t ((cfg0.win 6).blk t).view.emb (index_out t).1.1 (index_out t).1.2 (fun _ => rfl) (fun _ => rfl)
      (fun r j => ?_) y)
    unfold out0_6
    rw [View.canon_unit_zero hz2]
    exact (z_apply _ _ _ _ _ r j).trans (product_eq m c t r 0 (by omega) _ j _ (by show j.val = _; rw [if_pos (by omega)]; omega))

theorem final_xbc : (dats m 0 c).arrAt 7 cfg0.N = xbcA m c :=
  (dats m 0 c).arrAt_eq_of_covers 7 _ (by decide +kernel) fun t _ y => by
    refine Eq.trans (congrFun (Value.flushed7 m c t) y) (block_of (Y := out0_7 (iblk m c 0 t) (iblk m c 1 t) (iblk m c 2 t) (iblk m c 3 t)
      (iblk m c 4 t) (iblk m c 5 t)) (xbcA m c) t ((cfg0.win 7).blk t).view.emb (index_out t).2.1.1 (index_out t).2.1.2 (fun _ => rfl) (fun _ => rfl)
      (fun r j => ?_) y)
    unfold out0_7
    rw [View.canon_unit_zero hz2]
    exact (xbc_apply _ _ _ _ _ r j).trans (product_eq m c t r 1536 (by omega) _ j _ (by show 1536 + j.val = _; rw [if_pos (by omega)]))

theorem final_q : (dats m 0 c).arrAt 8 cfg0.N = qA m c :=
  (dats m 0 c).arrAt_eq_of_covers 8 _ (by decide +kernel) fun t _ y => by
    refine Eq.trans (congrFun (Value.flushed8 m c t) y) (block_of (Y := out0_8 (iblk m c 0 t) (iblk m c 1 t) (iblk m c 2 t) (iblk m c 3 t)
      (iblk m c 4 t) (iblk m c 5 t)) (qA m c) t ((cfg0.win 8).blk t).view.emb (index_out t).2.2.1.1 (index_out t).2.2.1.2 (fun _ => rfl) (fun _ => rfl)
      (fun r j => ?_) y)
    unfold out0_8
    rw [View.canon_unit_zero hz2]
    exact (q_apply _ _ r j).trans (congrArg (fun p : EReal => p * ((1 / 8 * (Real.log 2)⁻¹ : ℝ) : EReal))
      (product_eq m c t r 4096 (by omega) _ j _ (by show 4120 + j.val = _; rw [if_neg (by omega)]; omega)))

theorem final_k : (dats m 0 c).arrAt 9 cfg0.N = kA m c :=
  (dats m 0 c).arrAt_eq_of_covers 9 _ (by decide +kernel) fun t _ y => by
    refine Eq.trans (congrFun (Value.flushed9 m c t) y) (block_of (Y := out0_9 (iblk m c 0 t) (iblk m c 1 t) (iblk m c 2 t) (iblk m c 3 t)
      (iblk m c 4 t) (iblk m c 5 t)) (kA m c) t ((cfg0.win 9).blk t).view.emb (index_out t).2.2.2.1.1 (index_out t).2.2.2.1.2 (fun _ => rfl) (fun _ => rfl)
      (fun r j => ?_) y)
    unfold out0_9
    rw [View.canon_unit_zero hz2]
    exact (k_apply _ _ r j).trans (product_eq m c t r 4608 (by omega) _ j _ (by show 4632 + j.val = _; rw [if_neg (by omega)]; omega))

theorem final_v : (dats m 0 c).arrAt 10 cfg0.N = vA m c :=
  (dats m 0 c).arrAt_eq_of_covers 10 _ (by decide +kernel) fun t _ y => by
    refine Eq.trans (congrFun (Value.flushed10 m c t) y) (block_of (Y := out0_10 (iblk m c 0 t) (iblk m c 1 t) (iblk m c 2 t) (iblk m c 3 t)
      (iblk m c 4 t) (iblk m c 5 t)) (vA m c) t ((cfg0.win 10).blk t).view.emb (index_out t).2.2.2.2.1.1 (index_out t).2.2.2.2.1.2 (fun _ => rfl) (fun _ => rfl)
      (fun r j => ?_) y)
    unfold out0_10
    rw [View.canon_unit_zero hz2]
    exact (v_apply _ _ r j).trans (product_eq m c t r 5120 (by omega) _ j _ (by show 5144 + j.val = _; rw [if_neg (by omega)]; omega))

theorem final_dt (hh : ∀ R d, ∃ r : ℝ, h m c R d = (r : EReal)) (hw : ∀ (d : Fin 1024) (j : Fin 24), ∃ r : ℝ, W m c (ix3 0 d ⟨4096 + j.val, by omega⟩) = ((r : ℝ) : EReal)) :
    (dats m 0 c).arrAt 11 cfg0.N = dtA m c :=
  (dats m 0 c).arrAt_eq_of_covers 11 _ (by decide +kernel) fun t _ y => by
    refine Eq.trans (congrFun (Value.flushed11 m c t) y) (block_of (Y := out0_11 (iblk m c 0 t) (iblk m c 1 t) (iblk m c 2 t) (iblk m c 3 t)
      (iblk m c 4 t) (iblk m c 5 t)) (dtA m c) t ((cfg0.win 11).blk t).view.emb (index_out t).2.2.2.2.2.1 (index_out t).2.2.2.2.2.2 (fun _ => rfl) (fun _ => rfl)
      (fun r j => ?_) y)
    unfold out0_11
    rw [View.canon_unit_zero hz2]
    refine (dt_apply _ _ _ r j).trans ?_
    rw [View.ld_unit_zero (S := S1024x128) hz2, View.ld_unit_zero (S := S1024x128) hz2]
    refine Eq.trans (b := dot (h m c (row t r)) (fun d => dtW m c d j)
        + dot (fun d => h m c (row t r) d - h m c (row t r) d) (fun d => dtW m c d j)
        + dot (h m c (row t r)) (fun d => dtW m c d j - dtW m c d j)) ?_ ?_
    · have e : (fun d => (k0_pay13 (iblk m c 0 t) (iblk m c 1 t) (iblk m c 2 t) (iblk m c 3 t) (iblk m c 4 t) (iblk m c 5 t) (ix2 r d) : EReal))
          = h m c (row t r) := funext fun d => rows_eq m c t r d
      simp only [iblk4, iblk5]
      refine congrArg (fun f : Fin 1024 → EReal => dot f _ + dot (fun d => f d - f d) _ + dot f _) e
    · rw [_root_.Proj.dot_split _ _ (hh _) (fun d => ?_)]
      · show _ = if H : j.val < 24 then proj m c (row t r) ⟨4096 + j.val, by omega⟩ else 0
        unfold proj dtW
        by_cases hj : j.val < 24
        · simp only [dif_pos hj]
        · simp only [dif_neg hj]
          simp [dot]
      · unfold dtW
        split
        · exact hw d ⟨_, ‹_›⟩
        · exact ⟨0, EReal.coe_zero.symm⟩

end Cert.Kernel2Ideal.Proj

end
-- ==== Proof.ProjRef.lean ====
module

public import proofs.«01_k».proof.Proof.ProjSpec
public import proofs.«01_k».proof.Proof.Gen.Reference2Ideal.Run
public import Idealize.ShloMosaic.Lib.Pointwise

/-!
# The plain input projection, in stages and entry by entry
-/

@[expose] public section

set_option maxRecDepth 16384

noncomputable section

namespace Cert.Reference2Ideal.Proj

open Cert.Reference2Ideal Cert.Reference2Ideal.Gen Idealize.ShloMosaic Idealize.ShloMosaic.TcCoe Idealize.SL.Sem
open scoped BigOperators

open _root_.Proj (dot)

section
variable {F : FTy → Type} [FloatOps F]
variable (x : FVec F S8x2048x1024 .f32) (m : FVec F S8x6144 .f32) (g : FVec F S1x1024 .f32) (w : FVec F S1x1024x5656 .f32)

/-- The normalised input. -/
def hid : FVec F S8x2048x1024 .f32 :=
  addf (mulf (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 (shapeCast _ g shapeCasts_S1x1024_S1024))))
    (broadcastInDim S8x2048x1024 ![0, 1, 2] bcast_S8x1x1024_S8x2048x1024_0_1_2
      (addf (broadcastInDim S8x1x1024 ![] bcast_S_S8x1x1024 (constant S_ .f32 0x3F800000#32))
        (extractStridedSlice S8x1x1024 ![0, 0, 1024] (broadcastInDim S8x1x6144 ![0, 2] bcast_S8x6144_S8x1x6144_0_2 m)
          slices_S8x1x6144_S8x1x1024_0_0_1024))))
    (broadcastInDim S8x2048x1024 ![0, 1, 2] bcast_S8x1x1024_S8x2048x1024_0_1_2
      (extractStridedSlice S8x1x1024 ![0, 0, 0] (broadcastInDim S8x1x6144 ![0, 2] bcast_S8x6144_S8x1x6144_0_2 m)
        slices_S8x1x6144_S8x1x1024_0_0_0))

/-- All its products. -/
def prod (h : FVec F S8x2048x1024 .f32) : FVec F S8x2048x5656 .f32 :=
  Host.dotGeneral dot_S8x2048x1024_S1024x5656_S8x2048x5656_2_0_01_1_n_n none h (shapeCast _ w shapeCasts_S1x1024x5656_S1024x5656)

variable (p : FVec F S8x2048x5656 .f32)

def zOf : FVec F S16384x1536 .bf16 := shapeCast _ (truncf .bf16 (extractStridedSlice S8x2048x1536 ![0, 0, 0] p
  slices_S8x2048x5656_S8x2048x1536_0_0_0) bitsLt_bf16_f32) shapeCasts_S8x2048x1536_S16384x1536
def xbcOf : FVec F S16384x2560 .bf16 := shapeCast _ (truncf .bf16 (extractStridedSlice S8x2048x2560 ![0, 0, 1536] p
  slices_S8x2048x5656_S8x2048x2560_0_0_1536) bitsLt_bf16_f32) shapeCasts_S8x2048x2560_S16384x2560
def qOf : FVec F S16384x512 .bf16 := shapeCast _ (truncf .bf16 (Host.divf (mulf (extractStridedSlice S8x2048x512 ![0, 0, 4120] p
  slices_S8x2048x5656_S8x2048x512_0_0_4120) (broadcastInDim S8x2048x512 ![] bcast_S_S8x2048x512 (constant S_ .f32 0x3E000000#32)))
  (broadcastInDim S8x2048x512 ![] bcast_S_S8x2048x512 (id (Host.log (constant S_ .f32 0x40000000#32))))) bitsLt_bf16_f32)
  shapeCasts_S8x2048x512_S16384x512
def kOf : FVec F S16384x512 .bf16 := shapeCast _ (truncf .bf16 (extractStridedSlice S8x2048x512 ![0, 0, 4632] p
  slices_S8x2048x5656_S8x2048x512_0_0_4632) bitsLt_bf16_f32) shapeCasts_S8x2048x512_S16384x512
def vOf : FVec F S16384x512 .bf16 := shapeCast _ (truncf .bf16 (extractStridedSlice S8x2048x512 ![0, 0, 5144] p
  slices_S8x2048x5656_S8x2048x512_0_0_5144) bitsLt_bf16_f32) shapeCasts_S8x2048x512_S16384x512
def dtOf : FVec F S16384x128 .f32 := pad S16384x128 ![0, 0] ![0, 104] ![0, 0] (shapeCast _ (extractStridedSlice S8x2048x24 ![0, 0, 4096] p
  slices_S8x2048x5656_S8x2048x24_0_0_4096) shapeCasts_S8x2048x24_S16384x24) (sitofp .f32 (constantI S_ 32 0#32))
  pads_S16384x24_S16384x128_000_01040 h_S_

end

section
variable (x : FVec Ideal S8x2048x1024 .f32) (m : FVec Ideal S8x6144 .f32) (g : FVec Ideal S1x1024 .f32) (w : FVec Ideal S1x1024x5656 .f32)

set_option backward.isDefEq.respectTransparency false in
theorem hid_apply (b : Fin 8) (s : Fin 2048) (d : Fin 1024) : (hid x m g (ix3 b s d) : EReal)
    = _root_.Proj.row (fun e => x (ix3 b s e)) (fun e => g (ix2 0 e)) (fun e => m (ix2 b ⟨1024 + e.val, by omega⟩))
      (fun e => m (ix2 b ⟨e.val, by omega⟩)) d := by
  unfold hid _root_.Proj.row
  pointwise

set_option backward.isDefEq.respectTransparency false in
theorem prod_apply (h : FVec Ideal S8x2048x1024 .f32) (b : Fin 8) (s : Fin 2048) (j : Fin 5656) : (prod w h (ix3 b s j) : EReal)
    = dot (fun d => h (ix3 b s d)) (fun d => w (ix3 0 d j)) := by
  unfold prod dot
  pointwise

variable (p : FVec Ideal S8x2048x5656 .f32) (R : Fin 16384)

/-- The products of row `R`, the rows of all sequences one after the other. -/
def at_ (j : Fin 5656) : EReal := p (ix3 ⟨R.val / 2048, by omega⟩ ⟨R.val % 2048, by omega⟩ j)

set_option backward.isDefEq.respectTransparency false in
theorem z_apply (j : Fin 1536) : (zOf p (ix2 R j) : EReal) = at_ p R ⟨j.val, by omega⟩ := by
  unfold zOf at_
  pointwise

set_option backward.isDefEq.respectTransparency false in
theorem xbc_apply (j : Fin 2560) : (xbcOf p (ix2 R j) : EReal) = at_ p R ⟨1536 + j.val, by omega⟩ := by
  unfold xbcOf at_
  pointwise

theorem eighth : Ideal.ofBits .f32 0x3E000000#32 = ((1 / 8 : ℝ) : EReal) := by
  simp [Ideal.ofBits, Ideal.ieee]
  rw [← EReal.coe_mul]
  norm_num

set_option backward.isDefEq.respectTransparency false in
theorem q_read (j : Fin 512) : (qOf p (ix2 R j) : EReal)
    = Ideal.div (at_ p R ⟨4120 + j.val, by omega⟩ * Ideal.ofBits .f32 0x3E000000#32) (Ideal.log (Ideal.ofBits .f32 0x40000000#32)) := by
  unfold qOf at_
  pointwise
  rfl

theorem q_apply (j : Fin 512) : (qOf p (ix2 R j) : EReal)
    = at_ p R ⟨4120 + j.val, by omega⟩ * ((1 / 8 * (Real.log 2)⁻¹ : ℝ) : EReal) := by
  rw [q_read, eighth, _root_.Proj.scale_eq]

set_option backward.isDefEq.respectTransparency false in
theorem k_apply (j : Fin 512) : (kOf p (ix2 R j) : EReal) = at_ p R ⟨4632 + j.val, by omega⟩ := by
  unfold kOf at_
  pointwise

set_option backward.isDefEq.respectTransparency false in
theorem v_apply (j : Fin 512) : (vOf p (ix2 R j) : EReal) = at_ p R ⟨5144 + j.val, by omega⟩ := by
  unfold vOf at_
  pointwise

theorem sitofp_zero : (FloatOps.sitofp .f32 (0#32 : BitVec 32) : Ideal .f32) = (0 : EReal) := by
  show (((0#32 : BitVec 32).toInt : ℝ) : EReal) = 0
  simp

set_option backward.isDefEq.respectTransparency false in
theorem dt_apply (j : Fin 128) : (dtOf p (ix2 R j) : EReal) = if H : j.val < 24 then at_ p R ⟨4096 + j.val, by omega⟩ else 0 := by
  rw [← sitofp_zero]
  unfold dtOf at_
  pointwise

end

end Cert.Reference2Ideal.Proj

end
-- ==== Proof.ProjEq.lean ====
module

public import proofs.«01_k».proof.Proof.ProjKernel
public import proofs.«01_k».proof.Proof.ProjRef

/-!
# The two input projections agree

The plain projection of the kernel's own arguments is, array by array, what the kernel leaves.
-/

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Cert.Reference2Ideal.Proj (hid prod at_ zOf xbcOf qOf kOf vOf dtOf)

variable (m : (ℓ : Loc nD τ sig) → Buf (Elt Ideal) ℓ) (c : Dev nD)

/-- All products of the plain projection. -/
def plain : FVec Ideal Cert.Reference2Ideal.S8x2048x5656 .f32 := prod (W m c) (hid (X m c) (M m c) (Gn m c))

theorem plain_at (R : Fin 16384) (j : Fin 5656) : at_ (plain m c) R j = proj m c R j := by
  unfold at_ plain proj
  rw [Cert.Reference2Ideal.Proj.prod_apply]
  refine congrArg (fun f : Fin 1024 → EReal => _root_.Proj.dot f (fun d => W m c (ix3 0 d j))) (funext fun d => ?_)
  exact Cert.Reference2Ideal.Proj.hid_apply _ _ _ _ _ d

/-- Arrays of two axes with the same entries. -/
theorem ext2 {a b : Nat} {A B : (⟨2, ![a, b]⟩ : Shape).Idx → EReal} (h : ∀ R j, A (ix2 R j) = B (ix2 R j)) : A = B := by
  funext i
  obtain ⟨R, j, rfl⟩ : ∃ R j, i = ix2 R j := ⟨i 0, i 1, by funext a; match a with | ⟨0, _⟩ => rfl | ⟨1, _⟩ => rfl⟩
  exact h R j

theorem plain_z : zOf (plain m c) = zA m c := ext2 fun R j => (Cert.Reference2Ideal.Proj.z_apply _ R j).trans (plain_at m c R _)
theorem plain_xbc : xbcOf (plain m c) = xbcA m c := ext2 fun R j => (Cert.Reference2Ideal.Proj.xbc_apply _ R j).trans (plain_at m c R _)
theorem plain_q : qOf (plain m c) = qA m c := ext2 fun R j => (Cert.Reference2Ideal.Proj.q_apply _ R j).trans
  (congrArg (fun p : EReal => p * ((1 / 8 * (Real.log 2)⁻¹ : ℝ) : EReal)) (plain_at m c R _))
theorem plain_k : kOf (plain m c) = kA m c := ext2 fun R j => (Cert.Reference2Ideal.Proj.k_apply _ R j).trans (plain_at m c R _)
theorem plain_v : vOf (plain m c) = vA m c := ext2 fun R j => (Cert.Reference2Ideal.Proj.v_apply _ R j).trans (plain_at m c R _)
theorem plain_dt : dtOf (plain m c) = dtA m c := ext2 fun R j => by
  refine (Cert.Reference2Ideal.Proj.dt_apply _ R j).trans ?_
  show _ = if H : j.val < 24 then proj m c R ⟨4096 + j.val, by omega⟩ else 0
  split
  · exact plain_at m c R _
  · rfl

/-- The rows are real where the gain, the scale and the shift are. -/
theorem h_real (hm : ∀ (b : Fin 8) (e : Fin 2048), ∃ r : ℝ, (M m c (ix2 b ⟨e.val, by omega⟩) : EReal) = (r : EReal))
    (hg : ∀ e : Fin 1024, ∃ r : ℝ, (Gn m c (ix2 0 e) : EReal) = (r : EReal)) (R : Fin 16384) (d : Fin 1024) :
    ∃ r : ℝ, h m c R d = (r : EReal) := by
  choose f hf using hm
  choose g hg using hg
  obtain ⟨r, hr⟩ := _root_.Proj.row_finite (fun e => X m c (ix3 ⟨R.val / 2048, by omega⟩ ⟨R.val % 2048, by omega⟩ e)) g
    (fun e => f ⟨R.val / 2048, by omega⟩ ⟨1024 + e.val, by omega⟩) (fun e => f ⟨R.val / 2048, by omega⟩ ⟨e.val, by omega⟩) d
  refine ⟨r, Eq.trans ?_ hr⟩
  simp only [← hf, ← hg]
  rfl

end Cert.Kernel2Ideal.Proj

end
-- ==== Proof.FiniteProj.lean ====
module

public import proofs.«01_k».proof.Proof.Gen.Pre_finite_proj
public import proofs.«01_k».proof.Proof.Finite
public import Idealize.ShloMosaic.Lib.Pointwise

/-!
# What the input projection's precondition says

The printed predicate is all ones: every shift, scale and gain, and every weight of the steps, is a real number.
-/

@[expose] public section

set_option maxRecDepth 16384

noncomputable section

namespace Cert.Pre_finite_proj.Real

open Idealize.ShloMosaic Idealize.SL.Sem Cert.Pre_finite_proj
open Cert.Pre_finite_scores.Real (and_one real_of_lt)

instance : Subsingleton S_.Idx := ⟨fun a b => funext fun i => i.elim0⟩

variable {A0 : FVec Ideal S8x2048x1024 .f32} {A1 : FVec Ideal S8x6144 .f32} {A2 : FVec Ideal S1x1024 .f32}
    {A3 : FVec Ideal S1x1024x5656 .f32} (h : fn (F := Ideal) A0 A1 A2 A3 = fun _ => 1#1)
include h

theorem parts : (∀ i, (((extractStridedSlice S8x2048 ![0, 0] A1 Gen.facts.slices_S8x6144_S8x2048_0_0 i : EReal).toReal : ℝ) : EReal)
        = extractStridedSlice S8x2048 ![0, 0] A1 Gen.facts.slices_S8x6144_S8x2048_0_0 i)
      ∧ (∀ i, (((A2 i : EReal).toReal : ℝ) : EReal) = A2 i)
      ∧ ∀ i, (((extractStridedSlice S1x1024x24 ![0, 0, 4096] A3 Gen.facts.slices_S1x1024x5656_S1x1024x24_0_0_4096 i : EReal).toReal : ℝ) : EReal)
        = extractStridedSlice S1x1024x24 ![0, 0, 4096] A3 Gen.facts.slices_S1x1024x5656_S1x1024x24_0_0_4096 i := by
  have h0 := congrFun h ix0
  unfold fn at h0
  obtain ⟨h01, h2⟩ := and_one h0
  obtain ⟨h0, h1⟩ := and_one h01
  exact ⟨fun i => real_of_lt (Host.reduce_andi_all _ _ _ _ _ h0 i), fun i => real_of_lt (Host.reduce_andi_all _ _ _ _ _ h1 i),
    fun i => real_of_lt (Host.reduce_andi_all _ _ _ _ _ h2 i)⟩

theorem modulation (b : Fin 8) (e : Fin 2048) : ∃ r : ℝ, (A1 (ix2 b ⟨e.val, by omega⟩) : EReal) = (r : EReal) := by
  have e0 : (extractStridedSlice S8x2048 ![0, 0] A1 Gen.facts.slices_S8x6144_S8x2048_0_0 (ix2 b e) : EReal) = A1 (ix2 b ⟨e.val, by omega⟩) := by
    pointwise
  exact ⟨_, e0.symm.trans ((parts h).1 (ix2 b e)).symm⟩

theorem gain (e : Fin 1024) : ∃ r : ℝ, (A2 (ix2 0 e) : EReal) = (r : EReal) := ⟨_, ((parts h).2.1 (ix2 0 e)).symm⟩

theorem weights (d : Fin 1024) (j : Fin 24) : ∃ r : ℝ, (A3 (ix3 0 d ⟨4096 + j.val, by omega⟩) : EReal) = (r : EReal) := by
  have e0 : (extractStridedSlice S1x1024x24 ![0, 0, 4096] A3 Gen.facts.slices_S1x1024x5656_S1x1024x24_0_0_4096 (ix3 0 d j) : EReal)
      = A3 (ix3 0 d ⟨4096 + j.val, by omega⟩) := by
    pointwise
  exact ⟨_, e0.symm.trans ((parts h).2.2 (ix3 0 d j)).symm⟩

end Cert.Pre_finite_proj.Real

end
-- ==== Proof.OutBlocks.lean ====
module

public import proofs.«01_k».proof.Proof.Gen.Kernel3Ideal.Value

/-!
# The output projection's blocks, as terms

The first point of the grid also clears the running counts of the routing; the two blocks of rows that it stores are the same terms of
its input blocks as at every other point.
-/

@[expose] public section

set_option maxRecDepth 16384

noncomputable section

namespace Cert.Kernel3Ideal.Out

open Cert.Kernel3Ideal Cert.Kernel3Ideal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Row `s` of a block of the modulation. -/
def part (s : ℕ) (H : ∀ a, (![0, s, 0] : Fin 3 → ℕ) a + S1x1x1024.size a ≤ S1x6x1024.size a) (x : Vec F S1x6x1024 .f32) : Vec F S1x1x1024 .f32 :=
  View.ld (Val := Elt F) (e' := .f32) x (Rect.unit (s := S1x6x1024) ![0, s, 0] S1x1x1024.size H)

/-- The rows after the mixing, and the normalised rows. -/
def mixed (x0 : Vec F S256x1536 .bf16) (x1 : Vec F S256x512 .bf16) (x2 : Vec F S1x256x1024 .f32) (x3 : Vec F S1x6x1024 .f32)
    (x4 : Vec F S1536x1024 .bf16) (x5 : Vec F S512x1024 .bf16) : FVec F S256x1024 .f32 :=
  k0_pay3 x0 x4 x1 x5 x2 (part 2 inb_S1x6x1024_S1x1x1024_0_2_0 x3)
def normed (x0 : Vec F S256x1536 .bf16) (x1 : Vec F S256x512 .bf16) (x2 : Vec F S1x256x1024 .f32) (x3 : Vec F S1x6x1024 .f32)
    (x4 : Vec F S1536x1024 .bf16) (x5 : Vec F S512x1024 .bf16) (x6 : Vec F S1x1024 .f32) : FVec F S256x1024 .f32 :=
  k0_pay5 (k0_pay4 x0 x4 x1 x5 x2 (part 2 inb_S1x6x1024_S1x1x1024_0_2_0 x3)) x6 (part 4 inb_S1x6x1024_S1x1x1024_0_4_0 x3)
    (part 3 inb_S1x6x1024_S1x1x1024_0_3_0 x3)

section
variable (c : Dev nD) (i : grid0.Coords) (arg1 : Memref sig .tc .vmem S256x1536 .bf16) (harg1 : arg1.IsWhole)
  (arg2 : Memref sig .tc .vmem S256x512 .bf16) (harg2 : arg2.IsWhole) (arg3 : Memref sig .tc .vmem S1x256x1024 .f32) (harg3 : arg3.IsWhole)
  (arg4 : Memref sig .tc .vmem S1x6x1024 .f32) (harg4 : arg4.IsWhole) (arg5 : Memref sig .tc .vmem S1536x1024 .bf16) (harg5 : arg5.IsWhole)
  (arg6 : Memref sig .tc .vmem S512x1024 .bf16) (harg6 : arg6.IsWhole) (arg7 : Memref sig .tc .vmem S1x1024 .f32) (harg7 : arg7.IsWhole)
  (arg8 : Memref sig .tc .vmem S48x1024 .bf16) (harg8 : arg8.IsWhole) (arg9 : Memref sig .tc .vmem S48x1024 .bf16) (harg9 : arg9.IsWhole)
  (arg10 : Memref sig .tc .vmem S48x256 .f32) (harg10 : arg10.IsWhole) (arg11 : Memref sig .tc .vmem S256x1024 .f32) (harg11 : arg11.IsWhole)
  (arg12 : Memref sig .tc .vmem S256x1024 .f32) (harg12 : arg12.IsWhole) (arg13 : Memref sig .tc .vmem S8x256 .i32) (harg13 : arg13.IsWhole)
  (arg14 : Memref sig .tc .vmem S256x128 .f32) (harg14 : arg14.IsWhole) (arg15 : Memref sig .tc .vmem S32x128 .f32) (harg15 : arg15.IsWhole)
  (arg16 : Memref sig .tc .vmem S32x128 .f32) (harg16 : arg16.IsWhole)
  (x0 : Vec F S256x1536 .bf16) (x1 : Vec F S256x512 .bf16) (x2 : Vec F S1x256x1024 .f32) (x3 : Vec F S1x6x1024 .f32)
  (x4 : Vec F S1536x1024 .bf16) (x5 : Vec F S512x1024 .bf16) (x6 : Vec F S1x1024 .f32) (x7 : Vec F S48x1024 .bf16)
  (x8 : Vec F S48x1024 .bf16) (x9 : Vec F S48x256 .f32) (xs0 : Vec F S32x128 .f32)

theorem mixed_A (hc0 : cond0_0 i) :
    out0_A_10 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 x0 x1 x2 x3 x4 x5 x6 x7 x8 x9 = mixed x0 x1 x2 x3 x4 x5 := by
  unfold out0_A_10
  rw [View.read_writes_eq_canon _ _ _ (cover0_A_10 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread, harg6.read_unread,
    View.ld_unit_zero (S := S256x1536) hz2, View.ld_unit_zero (S := S256x512) hz2, View.ld_unit_zero (S := S1x256x1024) hz3,
    View.ld_unit_zero (S := S1536x1024) hz2, View.ld_unit_zero (S := S512x1024) hz2]
  rfl

theorem normed_A (hc0 : cond0_0 i) :
    out0_A_11 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 x0 x1 x2 x3 x4 x5 x6 x7 x8 x9 = normed x0 x1 x2 x3 x4 x5 x6 := by
  unfold out0_A_11
  rw [View.read_writes_eq_canon _ _ _ (cover0_A_11 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 hc0 x0 x1 x2 x3 x4 x5 x6 x7 x8 x9)]
  unfold kernelRun0_A
  dsimp only
  sl_unfold_words
  rw [View.canon_unit_zero hz2]
  simp only [View.readAt_eq_ld, harg1.read_unread, harg2.read_unread, harg3.read_unread, harg4.read_unread, harg5.read_unread, harg6.read_unread,
    harg7.read_unread, View.ld_unit_zero (S := S256x1536) hz2, View.ld_unit_zero (S := S256x512) hz2, View.ld_unit_zero (S := S1x256x1024) hz3,
    View.ld_unit_zero (S := S1536x1024) hz2, View.ld_unit_zero (S := S512x1024) hz2, View.ld_unit_zero (S := S1x1024) hz2]
  rfl

theorem mixed_B (hc0 : ¬cond0_0 i) :
    out0_B_10 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 x0 x1 x2 x3 x4 x5 x6 x7 x8 x9 xs0 = mixed x0 x1 x2 x3 x4 x5 := by
  unfold out0_B_10
  rw [View.read_writes_eq_canon _ _ _ (cover0_B_10 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 hc0 x0 x1 x2 x3 x4 x5 x6 x7 x8 x9 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread,
    View.ld_unit_zero (S := S256x1536) hz2, View.ld_unit_zero (S := S256x512) hz2, View.ld_unit_zero (S := S1x256x1024) hz3,
    View.ld_unit_zero (S := S1536x1024) hz2, View.ld_unit_zero (S := S512x1024) hz2]
  rfl

theorem normed_B (hc0 : ¬cond0_0 i) :
    out0_B_11 c i arg1 harg1 arg2 harg2 arg3 harg3 arg4 harg4 arg5 harg5 arg6 harg6 arg7 harg7 arg8 harg8 arg9 harg9 arg10 harg10 arg11 harg11
      arg12 harg12 arg13 harg13 arg14 harg14 arg15 harg15 arg16 harg16 hc0 x0 x1 x2 x3 x4 x5 x6 x7 x8 x9 xs0 = normed x0 x1 x2 x3 x4 x5 x6 := by
  unfold out0_B_11
  rw [View.read_writes_eq_canon _ _ _ (cover0_B_11 c i arg1 harg1 arg2 harg2 arg3 harg3 arg4 harg4 arg5 harg5 arg6 harg6 arg7 harg7 arg8 harg8 arg9 harg9
    arg10 harg10 arg11 harg11 arg12 harg12 arg13 harg13 arg14 harg14 arg15 harg15 arg16 harg16 hc0 x0 x1 x2 x3 x4 x5 x6 x7 x8 x9 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread,
    harg7.read_unread, View.ld_unit_zero (S := S256x1536) hz2, View.ld_unit_zero (S := S256x512) hz2, View.ld_unit_zero (S := S1x256x1024) hz3,
    View.ld_unit_zero (S := S1536x1024) hz2, View.ld_unit_zero (S := S512x1024) hz2, View.ld_unit_zero (S := S1x1024) hz2]
  rfl

end

end Cert.Kernel3Ideal.Out

end
-- ==== Proof.OutRead.lean ====
module

public import proofs.«01_k».proof.Proof.OutBlocks
public import proofs.«01_k».proof.Proof.ProjSpec
public import Idealize.ShloMosaic.Lib.Pointwise
public import Idealize.ShloMosaic.Lib.MatmulPlain
public import Idealize.ShloMosaic.Lib.StableHlo.ReadAt
public import Idealize.ShloMosaic.Lib.Pipeline.ValueKit

/-!
# The output projection's blocks, entry by entry
-/

@[expose] public section

set_option maxRecDepth 16384

noncomputable section

namespace Cert.Kernel3Ideal.Out

open Cert.Kernel3Ideal Cert.Kernel3Ideal.Gen Idealize.ShloMosaic Idealize.ShloMosaic.TcCoe Idealize.SL.Sem
open scoped BigOperators

theorem zero_f32 : (FloatOps.ofBits .f32 0x00000000#32 : Ideal .f32) = (0 : EReal) := by
  show Ideal.ofBits .f32 0x00000000#32 = 0
  simp [Ideal.ofBits, Ideal.ieee]

/-- A product of 256 rows of `k` numbers with 1024 columns of weights, added to nothing. -/
theorem product_apply {k : ℕ} (h : FVec Ideal ⟨2, ![256, k]⟩ .bf16) (w : FVec Ideal ⟨2, ![k, 1024]⟩ .bf16) (r : Fin 256) (j : Fin 1024) :
    (FloatOps.matmul (F := Ideal) (DotDims.plain 256 k 1024) none h w (constant ⟨2, ![256, 1024]⟩ .f32 0x00000000#32) (ix2 r j) : EReal)
      = ∑ d : Fin k, (h (ix2 r d) : EReal) * (w (ix2 d j) : EReal) := by
  refine Eq.trans (b := (FloatOps.matmul (F := Ideal) (DotDims.plain 256 k 1024) none h w
    (constant ⟨2, ![256, 1024]⟩ .f32 0x00000000#32) (ValueIdx.ix2 r j) : EReal)) rfl ?_
  rw [Ideal.matmul_plain_apply]
  exact (congrArg (· + _) zero_f32).trans (zero_add _)

/-- The layer's input plus the gated sum of two arrays. -/
def gated (P Q : FVec Ideal S256x1024 .f32) (x : Vec Ideal S1x256x1024 .f32) (g : Vec Ideal S1x1x1024 .f32) : FVec Ideal S256x1024 .f32 :=
  addf (shapeCast S256x1024 x shapeCasts_S1x256x1024_S256x1024) (mulf (broadcastTo S256x1024 (shapeCast S1x1024 g shapeCasts_S1x1x1024_S1x1024)
    broadcasts_S1x1024_S256x1024) (addf P Q))

set_option backward.isDefEq.respectTransparency false in
theorem gated_apply (P Q : FVec Ideal S256x1024 .f32) (x : Vec Ideal S1x256x1024 .f32) (g : Vec Ideal S1x1x1024 .f32) (r : Fin 256) (d : Fin 1024) :
    (gated P Q x g (ix2 r d) : EReal) = x (ix3 0 r d) + g (ix3 0 0 d) * ((P (ix2 r d) : EReal) + (Q (ix2 r d) : EReal)) := by
  unfold gated
  pointwise

section
variable (v3 : Vec Ideal S256x1536 .bf16) (v5 : Vec Ideal S1536x1024 .bf16) (v8 : Vec Ideal S256x512 .bf16) (v10 : Vec Ideal S512x1024 .bf16)
  (v14 : Vec Ideal S1x256x1024 .f32) (v16 : Vec Ideal S1x1x1024 .f32)

theorem mixed_apply (r : Fin 256) (d : Fin 1024) : (k0_pay3 v3 v5 v8 v10 v14 v16 (ix2 r d) : EReal)
    = v14 (ix3 0 r d) + v16 (ix3 0 0 d) * ((∑ k : Fin 1536, (v3 (ix2 r k) : EReal) * (v5 (ix2 k d) : EReal))
      + (∑ k : Fin 512, (v8 (ix2 r k) : EReal) * (v10 (ix2 k d) : EReal))) := by
  unfold k0_pay3
  simp only [shapeCast_self]
  refine (gated_apply _ _ v14 v16 r d).trans ?_
  refine congrArg₂ (fun a b : EReal => (v14 (ix3 0 r d) : EReal) + v16 (ix3 0 0 d) * (a + b)) ?_ ?_
  · exact product_apply (k := 1536) v3 v5 r d
  · exact product_apply (k := 512) v8 v10 r d

set_option backward.isDefEq.respectTransparency false in
theorem normed_apply (v32 : Vec Ideal S1x1024 .f32) (v36 v42 : Vec Ideal S1x1x1024 .f32) (r : Fin 256) (d : Fin 1024) :
    (k0_pay5 (k0_pay4 v3 v5 v8 v10 v14 v16) v32 v36 v42 (ix2 r d) : EReal)
      = _root_.Proj.row (fun e => k0_pay3 v3 v5 v8 v10 v14 v16 (ix2 r e)) (fun e => v32 (ix2 0 e)) (fun e => v36 (ix3 0 0 e)) (fun e => v42 (ix3 0 0 e)) d := by
  unfold k0_pay5 k0_pay4 _root_.Proj.row
  generalize k0_pay3 v3 v5 v8 v10 v14 v16 = X
  pointwise

end

variable (m : (ℓ : Loc nD τ sig) → Buf (Elt Ideal) ℓ) (c : Dev nD)

/-- The two mixers' results, the layer's input, its modulation, its weights and its gain. -/
abbrev Ys : (⟨S16384x1536, .f32⟩ : BufTy).Contents (Elt Ideal) := m (c, Proc.tc.devRef main_arg0)
abbrev Ya : (⟨S16384x512, .f32⟩ : BufTy).Contents (Elt Ideal) := m (c, Proc.tc.devRef main_arg1)
abbrev X : (⟨S8x2048x1024, .f32⟩ : BufTy).Contents (Elt Ideal) := m (c, Proc.tc.devRef main_arg2)
abbrev M : (⟨S8x6144, .f32⟩ : BufTy).Contents (Elt Ideal) := m (c, Proc.tc.devRef main_arg3)
abbrev W : (⟨S1x2048x1024, .f32⟩ : BufTy).Contents (Elt Ideal) := m (c, Proc.tc.devRef main_arg4)
abbrev Gn : (⟨S1x1024, .f32⟩ : BufTy).Contents (Elt Ideal) := m (c, Proc.tc.devRef main_arg5)

theorem mod_eq (b : Fin 8) (s : Fin 6) (d : Fin 1024) :
    (V m c main_v0 (ix3 b s d) : EReal) = M m c (ix2 b ⟨s.val * 1024 + d.val, by omega⟩) := by
  unfold V
  after_reads_at

theorem ys_eq (R : Fin 16384) (k : Fin 1536) : (V m c main_v17 (ix2 R k) : EReal) = Ys m c (ix2 R k) := by
  unfold V
  after_reads_at

theorem ya_eq (R : Fin 16384) (k : Fin 512) : (V m c main_v18 (ix2 R k) : EReal) = Ya m c (ix2 R k) := by
  unfold V
  after_reads_at

theorem wa_eq (k : Fin 1536) (d : Fin 1024) : (V m c main_v19 (ix2 k d) : EReal) = W m c (ix3 0 ⟨k.val, by omega⟩ d) := by
  unfold V
  after_reads_at

theorem wb_eq (k : Fin 512) (d : Fin 1024) : (V m c main_v20 (ix2 k d) : EReal) = W m c (ix3 0 ⟨1536 + k.val, by omega⟩ d) := by
  unfold V
  after_reads_at

theorem gain_eq (d : Fin 1024) : (V m c main_v22 (ix2 0 d) : EReal) = Gn m c (ix2 0 d) := by
  unfold V
  after_reads_at

end Cert.Kernel3Ideal.Out

end
-- ==== Proof.OutKernel.lean ====
module

public import proofs.«01_k».proof.Proof.OutRead

/-!
# The arrays that the output projection leaves

Point `t` of the grid stages rows `256 t …` of the mixers' results, all of them of the sequence `t / 8`, with the same rows of the
input and that sequence's modulation.
-/

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ) (c : Dev nD)

theorem index_in : ∀ t : Fin cfg0.N,
    (win0_0.index t 0 = t.val ∧ win0_0.index t 1 = 0) ∧ (win0_1.index t 0 = t.val ∧ win0_1.index t 1 = 0)
      ∧ (win0_2.index t 0 = t.val / 8 ∧ win0_2.index t 1 = t.val % 8 ∧ win0_2.index t 2 = 0)
      ∧ (win0_3.index t 0 = t.val / 8 ∧ win0_3.index t 1 = 0 ∧ win0_3.index t 2 = 0)
      ∧ (win0_4.index t 0 = 0 ∧ win0_4.index t 1 = 0) ∧ (win0_5.index t 0 = 0 ∧ win0_5.index t 1 = 0)
      ∧ (win0_6.index t 0 = 0 ∧ win0_6.index t 1 = 0) :=
  (by decide +kernel : ∀ t : Fin grid0.N, _)

theorem index_out : ∀ t : Fin cfg0.N,
    (win0_10.index t 0 = t.val ∧ win0_10.index t 1 = 0) ∧ (win0_11.index t 0 = t.val ∧ win0_11.index t 1 = 0) :=
  (by decide +kernel : ∀ t : Fin grid0.N, _)

theorem t_lt (t : Fin cfg0.N) : t.val < 64 := lt_of_lt_of_eq t.isLt N_0

/-- Row `R` after the mixing, the rows of all sequences one after the other. -/
def x1 (R : Fin 16384) (d : Fin 1024) : EReal :=
  X m c (ix3 ⟨R.val / 2048, by omega⟩ ⟨R.val % 2048, by omega⟩ d) + M m c (ix2 ⟨R.val / 2048, by omega⟩ ⟨2048 + d.val, by omega⟩)
    * ((∑ k : Fin 1536, (Ys m c (ix2 R k) : EReal) * (W m c (ix3 0 ⟨k.val, by omega⟩ d) : EReal))
      + (∑ k : Fin 512, (Ya m c (ix2 R k) : EReal) * (W m c (ix3 0 ⟨1536 + k.val, by omega⟩ d) : EReal)))

/-- The row, normalised. -/
def h2 (R : Fin 16384) (d : Fin 1024) : EReal :=
  _root_.Proj.row (x1 m c R) (fun e => Gn m c (ix2 0 e)) (fun e => M m c (ix2 ⟨R.val / 2048, by omega⟩ ⟨4096 + e.val, by omega⟩))
    (fun e => M m c (ix2 ⟨R.val / 2048, by omega⟩ ⟨3072 + e.val, by omega⟩)) d

/-- Row `r` of point `t`. -/
def row (t : Fin cfg0.N) (r : Fin 256) : Fin 16384 := ⟨256 * t.val + r.val, by have := t_lt t; omega⟩

/-- An entry of a staged block of `a` rows and `b` columns. -/
theorem emb_block {a b A0 A1 : ℕ} (A : (⟨2, ![A0, A1]⟩ : Shape).Idx → EReal) (i : (⟨2, ![A0, A1]⟩ : Shape).Idx) (r : Fin a) (j : Fin b)
    (R : Fin A0) (J : Fin A1) {b0 b1 n0 n1 : ℕ} (e0 : b0 = n0) (e1 : b1 = n1) (h0 : (i 0).val = b0 * a + 1 * r.val) (h1 : (i 1).val = b1 * b + 1 * j.val)
    (hR : R.val = n0 * a + r.val) (hJ : J.val = n1 * b + j.val) : A i = A (ix2 R J) := by
  subst e0
  subst e1
  refine congrArg A (funext fun a => Fin.ext ?_)
  match a with
  | ⟨0, _⟩ => exact h0.trans (by show _ = R.val; omega)
  | ⟨1, _⟩ => exact h1.trans (by show _ = J.val; omega)

section
variable (t : Fin cfg0.N) (r : Fin 256)

theorem iblk0 (k : Fin 1536) : (iblk m c 0 t (ix2 r k) : EReal) = Ys m c (ix2 (row t r) k) := by
  rw [← ys_eq]
  exact emb_block (V m c main_v17) (((cfg0.win 0).blk t).view.emb (ix2 r k)) r k (row t r) k (index_in t).1.1 (index_in t).1.2 rfl rfl
    (by show 256 * t.val + r.val = t.val * 256 + r.val; omega) (by omega)

theorem iblk1 (k : Fin 512) : (iblk m c 1 t (ix2 r k) : EReal) = Ya m c (ix2 (row t r) k) := by
  rw [← ya_eq]
  exact emb_block (V m c main_v18) (((cfg0.win 1).blk t).view.emb (ix2 r k)) r k (row t r) k (index_in t).2.1.1 (index_in t).2.1.2 rfl rfl
    (by show 256 * t.val + r.val = t.val * 256 + r.val; omega) (by omega)

theorem iblk2 (d : Fin 1024) : iblk m c 2 t (ix3 0 r d)
    = X m c (ix3 ⟨(row t r).val / 2048, by omega⟩ ⟨(row t r).val % 2048, by omega⟩ d) := by
  have ht := t_lt t
  have hr := r.isLt
  refine Eq.trans (b := V m c main_arg2 (((cfg0.win 2).blk t).view.emb (ix3 0 r d))) rfl ?_
  rw [V_main_arg2]
  refine congrArg (X m c) (funext fun a => Fin.ext ?_)
  match a with
  | ⟨0, _⟩ => show win0_2.index t 0 * 1 + 1 * 0 = (256 * t.val + r.val) / 2048; rw [(index_in t).2.2.1.1]; omega
  | ⟨1, _⟩ => show win0_2.index t 1 * 256 + 1 * r.val = (256 * t.val + r.val) % 2048; rw [(index_in t).2.2.1.2.1]; omega
  | ⟨2, _⟩ => show win0_2.index t 2 * 1024 + 1 * d.val = d.val; rw [(index_in t).2.2.1.2.2]; omega

theorem iblk3 (s : Fin 6) (d : Fin 1024) : (iblk m c 3 t (ix3 0 s d) : EReal)
    = M m c (ix2 ⟨(row t r).val / 2048, by omega⟩ ⟨s.val * 1024 + d.val, by omega⟩) := by
  have ht := t_lt t
  have hr := r.isLt
  rw [← mod_eq]
  show V m c main_v0 (((cfg0.win 3).blk t).view.emb (ix3 0 s d)) = _
  refine congrArg (V m c main_v0) (funext fun a => Fin.ext ?_)
  match a with
  | ⟨0, _⟩ => show win0_3.index t 0 * 1 + 1 * 0 = (256 * t.val + r.val) / 2048; rw [(index_in t).2.2.2.1.1]; omega
  | ⟨1, _⟩ => show win0_3.index t 1 * 6 + 1 * s.val = s.val; rw [(index_in t).2.2.2.1.2.1]; omega
  | ⟨2, _⟩ => show win0_3.index t 2 * 1024 + 1 * d.val = d.val; rw [(index_in t).2.2.2.1.2.2]; omega

theorem iblk4 (k : Fin 1536) (d : Fin 1024) : (iblk m c 4 t (ix2 k d) : EReal) = W m c (ix3 0 ⟨k.val, by omega⟩ d) := by
  rw [← wa_eq]
  exact emb_block (V m c main_v19) (((cfg0.win 4).blk t).view.emb (ix2 k d)) k d k d (index_in t).2.2.2.2.1.1 (index_in t).2.2.2.2.1.2 rfl rfl
    (by omega) (by omega)

theorem iblk5 (k : Fin 512) (d : Fin 1024) : (iblk m c 5 t (ix2 k d) : EReal) = W m c (ix3 0 ⟨1536 + k.val, by omega⟩ d) := by
  rw [← wb_eq]
  exact emb_block (V m c main_v20) (((cfg0.win 5).blk t).view.emb (ix2 k d)) k d k d (index_in t).2.2.2.2.2.1.1 (index_in t).2.2.2.2.2.1.2 rfl rfl
    (by omega) (by omega)

theorem iblk6 (d : Fin 1024) : (iblk m c 6 t (ix2 0 d) : EReal) = Gn m c (ix2 0 d) := by
  rw [← gain_eq]
  exact emb_block (V m c main_v22) (((cfg0.win 6).blk t).view.emb (ix2 0 d)) (a := 1) 0 d 0 d (index_in t).2.2.2.2.2.2.1 (index_in t).2.2.2.2.2.2.2 rfl rfl
    (by rfl) (by omega)

/-- A row of the staged modulation. -/
theorem part_eq (s : ℕ) (hs : s < 6) (H) (d : Fin 1024) : (part (F := Ideal) s H (iblk m c 3 t) (ix3 0 0 d) : EReal)
    = M m c (ix2 ⟨(row t r).val / 2048, by omega⟩ ⟨s * 1024 + d.val, by omega⟩) := by
  rw [← iblk3 m c t r ⟨s, hs⟩ d]
  refine congrArg (iblk m c 3 t) (funext fun a => Fin.ext ?_)
  match a with
  | ⟨0, _⟩ => rfl
  | ⟨1, _⟩ => rfl
  | ⟨2, _⟩ => show 0 + 1 * d.val = d.val; omega

/-- What a point stores. -/
abbrev mixedAt : FVec Ideal S256x1024 .f32 := mixed (iblk m c 0 t) (iblk m c 1 t) (iblk m c 2 t) (iblk m c 3 t) (iblk m c 4 t) (iblk m c 5 t)
abbrev normedAt : FVec Ideal S256x1024 .f32 :=
  normed (iblk m c 0 t) (iblk m c 1 t) (iblk m c 2 t) (iblk m c 3 t) (iblk m c 4 t) (iblk m c 5 t) (iblk m c 6 t)

theorem mixed_eq (d : Fin 1024) : (mixedAt m c t (ix2 r d) : EReal) = x1 m c (row t r) d := by
  unfold mixedAt mixed
  rw [mixed_apply]
  unfold x1
  simp only [iblk0, iblk1, iblk2, iblk4, iblk5, part_eq m c t r 2 (by decide)]

theorem normed_eq (d : Fin 1024) : (normedAt m c t (ix2 r d) : EReal) = h2 m c (row t r) d := by
  unfold normedAt normed
  rw [normed_apply]
  unfold h2
  simp only [iblk6, part_eq m c t r 4 (by decide), part_eq m c t r 3 (by decide)]
  exact congrArg (fun f : Fin 1024 → EReal => _root_.Proj.row f _ _ _ d) (funext fun e => mixed_eq m c t r e)

end

theorem flushed_mixed (t : Fin cfg0.N) : (dats m 0 c).flushed 10 t = (cfg0.win 10).cut (grid0.coords t) (mixedAt m c t) := by
  by_cases h0 : t.val % 64 = 0
  · rw [Value.flushed10_A m c t h0, mixed_A]
  · rw [Value.flushed10_B m c t h0, mixed_B]

theorem flushed_normed (t : Fin cfg0.N) : (dats m 0 c).flushed 11 t = (cfg0.win 11).cut (grid0.coords t) (normedAt m c t) := by
  by_cases h0 : t.val % 64 = 0
  · rw [Value.flushed11_A m c t h0, normed_A]
  · rw [Value.flushed11_B m c t h0, normed_B]

/-- A block of a result is the block of the array `G`, if every entry is. -/
theorem block_of {Y : (⟨2, ![256, 1024]⟩ : Shape).Idx → EReal} (G : (⟨2, ![16384, 1024]⟩ : Shape).Idx → EReal) (t : Fin cfg0.N)
    (f : (⟨2, ![256, 1024]⟩ : Shape).Idx → (⟨2, ![16384, 1024]⟩ : Shape).Idx)
    {b0 b1 : ℕ} (e0 : b0 = t.val) (e1 : b1 = 0)
    (h0 : ∀ j, (f j 0).val = b0 * 256 + 1 * (j 0).val) (h1 : ∀ j, (f j 1).val = b1 * 1024 + 1 * (j 1).val)
    (hY : ∀ (r : Fin 256) (j : Fin 1024), Y (ix2 r j) = G (ix2 (row t r) j)) (j : (⟨2, ![256, 1024]⟩ : Shape).Idx) : Y j = G (f j) := by
  obtain ⟨r, x, rfl⟩ : ∃ (r : Fin 256) (x : Fin 1024), j = ix2 r x := ⟨j 0, j 1, by funext a; fin_cases a <;> rfl⟩
  exact (hY r x).trans (emb_block G (f (ix2 r x)) r x (row t r) x e0 e1 (h0 _) (h1 _)
    (by show 256 * t.val + r.val = t.val * 256 + r.val; omega) (by omega)).symm

/-- The arrays of results. -/
def x1A : (⟨S16384x1024, .f32⟩ : BufTy).Contents (Elt Ideal) := fun i => x1 m c (i 0) (i 1)
def h2A : (⟨S16384x1024, .f32⟩ : BufTy).Contents (Elt Ideal) := fun i => h2 m c (i 0) (i 1)

theorem final_x1 : (dats m 0 c).arrAt 10 cfg0.N = x1A m c :=
  (dats m 0 c).arrAt_eq_of_covers 10 _ (by decide +kernel) fun t _ y =>
    (congrFun (flushed_mixed m c t) y).trans (block_of (Y := mixedAt m c t) (x1A m c) t ((cfg0.win 10).blk t).view.emb (index_out t).1.1 (index_out t).1.2
      (fun _ => rfl) (fun _ => rfl) (fun r j => mixed_eq m c t r j) y)

theorem final_h2 : (dats m 0 c).arrAt 11 cfg0.N = h2A m c :=
  (dats m 0 c).arrAt_eq_of_covers 11 _ (by decide +kernel) fun t _ y =>
    (congrFun (flushed_normed m c t) y).trans (block_of (Y := normedAt m c t) (h2A m c) t ((cfg0.win 11).blk t).view.emb (index_out t).2.1 (index_out t).2.2
      (fun _ => rfl) (fun _ => rfl) (fun r j => normed_eq m c t r j) y)

end Cert.Kernel3Ideal.Out

end
-- ==== Proof.OutRef.lean ====
module

public import proofs.«01_k».proof.Proof.ProjSpec
public import proofs.«01_k».proof.Proof.Gen.Reference3Ideal.Run
public import Idealize.ShloMosaic.Lib.Pointwise

/-!
# The plain output projection, in stages and entry by entry
-/

@[expose] public section

set_option maxRecDepth 16384

noncomputable section

namespace Cert.Reference3Ideal.Out

open Cert.Reference3Ideal Cert.Reference3Ideal.Gen Idealize.ShloMosaic Idealize.ShloMosaic.TcCoe Idealize.SL.Sem
open scoped BigOperators

section
variable {F : FTy → Type} [FloatOps F]
variable (ys : FVec F S16384x1536 .f32) (ya : FVec F S16384x512 .f32) (x : FVec F S8x2048x1024 .f32) (m : FVec F S8x6144 .f32)
  (w : FVec F S1x2048x1024 .f32) (g : FVec F S1x1024 .f32)

/-- The mixers' results side by side. -/
def cat : FVec F S8x2048x2048 .f32 :=
  concatenate S8x2048x2048 2 [⟨S8x2048x1536, (shapeCast _ ys shapeCasts_S16384x1536_S8x2048x1536)⟩,
    ⟨S8x2048x512, (shapeCast _ ya shapeCasts_S16384x512_S8x2048x512)⟩] concatenates_S8x2048x1536_S8x2048x512_S8x2048x2048_d2

/-- Their product with the weights. -/
def prod (y : FVec F S8x2048x2048 .f32) : FVec F S8x2048x1024 .f32 :=
  Host.dotGeneral dot_S8x2048x2048_S2048x1024_S8x2048x1024_2_0_01_1_n_n none y (shapeCast _ w shapeCasts_S1x2048x1024_S2048x1024)

/-- The layer's input plus the gated product. -/
def gated (p : FVec F S8x2048x1024 .f32) : FVec F S8x2048x1024 .f32 :=
  addf x (mulf (broadcastInDim S8x2048x1024 ![0, 1, 2] bcast_S8x1x1024_S8x2048x1024_0_1_2
    (extractStridedSlice S8x1x1024 ![0, 0, 2048] (broadcastInDim S8x1x6144 ![0, 2] bcast_S8x6144_S8x1x6144_0_2 m)
      slices_S8x1x6144_S8x1x1024_0_0_2048)) p)

/-- The normalised rows. -/
def hid : FVec F S8x2048x1024 .f32 :=
  addf (mulf (mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 (shapeCast _ g shapeCasts_S1x1024_S1024))))
    (broadcastInDim S8x2048x1024 ![0, 1, 2] bcast_S8x1x1024_S8x2048x1024_0_1_2
      (addf (broadcastInDim S8x1x1024 ![] bcast_S_S8x1x1024 (constant S_ .f32 0x3F800000#32))
        (extractStridedSlice S8x1x1024 ![0, 0, 4096] (broadcastInDim S8x1x6144 ![0, 2] bcast_S8x6144_S8x1x6144_0_2 m)
          slices_S8x1x6144_S8x1x1024_0_0_4096))))
    (broadcastInDim S8x2048x1024 ![0, 1, 2] bcast_S8x1x1024_S8x2048x1024_0_1_2
      (extractStridedSlice S8x1x1024 ![0, 0, 3072] (broadcastInDim S8x1x6144 ![0, 2] bcast_S8x6144_S8x1x6144_0_2 m)
        slices_S8x1x6144_S8x1x1024_0_0_3072))

/-- The rows of all sequences one after the other. -/
def flat : FVec F S16384x1024 .f32 := shapeCast _ x shapeCasts_S8x2048x1024_S16384x1024

end

section
variable (ys : FVec Ideal S16384x1536 .f32) (ya : FVec Ideal S16384x512 .f32) (x : FVec Ideal S8x2048x1024 .f32) (m : FVec Ideal S8x6144 .f32)
  (w : FVec Ideal S1x2048x1024 .f32) (g : FVec Ideal S1x1024 .f32)

set_option backward.isDefEq.respectTransparency false in
theorem hid_apply (b : Fin 8) (s : Fin 2048) (d : Fin 1024) : (hid x m g (ix3 b s d) : EReal)
    = _root_.Proj.row (fun e => x (ix3 b s e)) (fun e => g (ix2 0 e)) (fun e => m (ix2 b ⟨4096 + e.val, by omega⟩))
      (fun e => m (ix2 b ⟨3072 + e.val, by omega⟩)) d := by
  unfold hid _root_.Proj.row
  pointwise

set_option backward.isDefEq.respectTransparency false in
theorem prod_apply (y : FVec Ideal S8x2048x2048 .f32) (b : Fin 8) (s : Fin 2048) (d : Fin 1024) : (prod w y (ix3 b s d) : EReal)
    = ∑ k : Fin 2048, (y (ix3 b s k) : EReal) * (w (ix3 0 k d) : EReal) := by
  unfold prod
  pointwise

set_option backward.isDefEq.respectTransparency false in
theorem gated_apply (p : FVec Ideal S8x2048x1024 .f32) (b : Fin 8) (s : Fin 2048) (d : Fin 1024) : (gated x m p (ix3 b s d) : EReal)
    = x (ix3 b s d) + m (ix2 b ⟨2048 + d.val, by omega⟩) * p (ix3 b s d) := by
  unfold gated
  pointwise

set_option backward.isDefEq.respectTransparency false in
theorem flat_apply (R : Fin 16384) (d : Fin 1024) : (flat x (ix2 R d) : EReal) = x (ix3 ⟨R.val / 2048, by omega⟩ ⟨R.val % 2048, by omega⟩ d) := by
  unfold flat
  pointwise

set_option backward.isDefEq.respectTransparency false in
theorem cat_left (R : Fin 16384) (k : Fin 1536) : (cat ys ya (ix3 ⟨R.val / 2048, by omega⟩ ⟨R.val % 2048, by omega⟩ ⟨k.val, by omega⟩) : EReal)
    = ys (ix2 R k) := by
  unfold cat
  pointwise

set_option backward.isDefEq.respectTransparency false in
theorem cat_right (R : Fin 16384) (k : Fin 512) : (cat ys ya (ix3 ⟨R.val / 2048, by omega⟩ ⟨R.val % 2048, by omega⟩ ⟨1536 + k.val, by omega⟩) : EReal)
    = ya (ix2 R k) := by
  unfold cat
  pointwise

end

end Cert.Reference3Ideal.Out

end
-- ==== Proof.OutEq.lean ====
module

public import proofs.«01_k».proof.Proof.OutKernel
public import proofs.«01_k».proof.Proof.OutRef

/-!
# The two output projections agree

A sum over the 2048 columns of the mixers' results side by side is the sum over the first mixer's 1536 and the second's 512.
-/

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Cert.Reference3Ideal.Out (cat prod hid flat)
open scoped BigOperators

variable (m : (ℓ : Loc nD τ sig) → Buf (Elt Ideal) ℓ) (c : Dev nD)

/-- The plain layer after the mixing. -/
def plain : FVec Ideal Cert.Reference3Ideal.S8x2048x1024 .f32 := Cert.Reference3Ideal.Out.gated (X m c) (M m c) (prod (W m c) (cat (Ys m c) (Ya m c)))

theorem plain_apply (R : Fin 16384) (d : Fin 1024) :
    (plain m c (ix3 ⟨R.val / 2048, by omega⟩ ⟨R.val % 2048, by omega⟩ d) : EReal) = x1 m c R d := by
  unfold plain x1
  rw [Cert.Reference3Ideal.Out.gated_apply, Cert.Reference3Ideal.Out.prod_apply]
  refine congrArg (fun p : EReal => (X m c (ix3 ⟨R.val / 2048, by omega⟩ ⟨R.val % 2048, by omega⟩ d) : EReal)
    + M m c (ix2 ⟨R.val / 2048, by omega⟩ ⟨2048 + d.val, by omega⟩) * p) ?_
  refine (Fin.sum_univ_add (a := 1536) (b := 512) _).trans (congrArg₂ (fun a b : EReal => a + b) ?_ ?_)
  · exact Finset.sum_congr rfl fun k _ => congrArg (fun y : EReal => y * (W m c (ix3 0 ⟨k.val, by omega⟩ d) : EReal))
      (Cert.Reference3Ideal.Out.cat_left _ _ R k)
  · exact Finset.sum_congr rfl fun k _ => congrArg (fun y : EReal => y * (W m c (ix3 0 ⟨1536 + k.val, by omega⟩ d) : EReal))
      (Cert.Reference3Ideal.Out.cat_right _ _ R k)

/-- Arrays of two axes with the same entries. -/
theorem ext2 {a b : Nat} {A B : (⟨2, ![a, b]⟩ : Shape).Idx → EReal} (h : ∀ R j, A (ix2 R j) = B (ix2 R j)) : A = B := by
  funext i
  obtain ⟨R, j, rfl⟩ : ∃ R j, i = ix2 R j := ⟨i 0, i 1, by funext a; match a with | ⟨0, _⟩ => rfl | ⟨1, _⟩ => rfl⟩
  exact h R j

theorem plain_x1 : flat (plain m c) = x1A m c := ext2 fun R d =>
  (Cert.Reference3Ideal.Out.flat_apply _ R d).trans (plain_apply m c R d)

theorem plain_h2 : flat (hid (plain m c) (M m c) (Gn m c)) = h2A m c := ext2 fun R d => by
  refine (Cert.Reference3Ideal.Out.flat_apply _ R d).trans ((Cert.Reference3Ideal.Out.hid_apply _ _ _ _ _ d).trans ?_)
  exact congrArg (fun f : Fin 1024 → EReal => _root_.Proj.row f (fun e => Gn m c (ix2 0 e))
    (fun e => M m c (ix2 ⟨R.val / 2048, by omega⟩ ⟨4096 + e.val, by omega⟩)) (fun e => M m c (ix2 ⟨R.val / 2048, by omega⟩ ⟨3072 + e.val, by omega⟩)) d)
    (funext fun e => plain_apply m c R e)

end Cert.Kernel3Ideal.Out

end
-- ==== Proof.Adaln.lean ====
module

public import proofs.«01_k».proof.Proof.Gen.Kernel4Ideal.Value
public import proofs.«01_k».proof.Proof.Gen.Reference4Ideal.Run
public import Idealize.ShloMosaic.Lib.Pointwise
public import Idealize.ShloMosaic.Lib.MatmulPlain
public import Idealize.ShloMosaic.Lib.StableHlo.ReadAt
public import Idealize.ShloMosaic.Lib.Pipeline.ValueKit

/-!
# The modulation

Each point of the grid makes 1536 of the 6144 columns: the product of `silu` of the conditioning with its columns of weights, plus
its part of the bias.
-/

@[expose] public section

set_option maxRecDepth 16384

noncomputable section

namespace Adaln

open Idealize.ShloMosaic

/-- `u / (1 + exp (-u))`. -/
def silu (u : EReal) : EReal :=
  u * Ideal.div (Ideal.ofBits .f32 0x3F800000#32) (Ideal.ofBits .f32 0x3F800000#32 + Ideal.exp (-u))

end Adaln

namespace Cert.Reference4Ideal.Adaln

open Cert.Reference4Ideal Cert.Reference4Ideal.Gen Idealize.ShloMosaic Idealize.ShloMosaic.TcCoe Idealize.SL.Sem
open scoped BigOperators

section
variable {F : FTy → Type} [FloatOps F]

/-- `silu` of the conditioning. -/
def act (u : FVec F S8x1024 .f32) : FVec F S8x1024 .f32 :=
  mulf u (Host.divf (broadcastInDim S8x1024 ![] bcast_S_S8x1024 (constant S_ .f32 0x3F800000#32))
    (addf (broadcastInDim S8x1024 ![] bcast_S_S8x1024 (constant S_ .f32 0x3F800000#32)) (Host.exp (Host.negf u))))

/-- Its product with the weights, plus the bias. -/
def out (a : FVec F S8x1024 .f32) (w : FVec F S1x1024x6144 .f32) (b : FVec F S1x6144 .f32) : FVec F S8x6144 .f32 :=
  addf (Host.dotGeneral dot_S8x1024_S1024x6144_S8x6144_1_0_0_1_n_n none a (shapeCast _ w shapeCasts_S1x1024x6144_S1024x6144))
    (broadcastInDim S8x6144 ![0, 1] bcast_S1x6144_S8x6144_0_1 (broadcastInDim S1x6144 ![1] bcast_S6144_S1x6144_1
      (shapeCast _ b shapeCasts_S1x6144_S6144)))

end

set_option backward.isDefEq.respectTransparency false in
theorem act_apply (u : FVec Ideal S8x1024 .f32) (r : Fin 8) (k : Fin 1024) : (act u (ix2 r k) : EReal) = _root_.Adaln.silu (u (ix2 r k)) := by
  unfold act _root_.Adaln.silu
  pointwise

set_option backward.isDefEq.respectTransparency false in
theorem out_apply (a : FVec Ideal S8x1024 .f32) (w : FVec Ideal S1x1024x6144 .f32) (b : FVec Ideal S1x6144 .f32) (r : Fin 8) (j : Fin 6144) :
    (out a w b (ix2 r j) : EReal) = (∑ k : Fin 1024, (a (ix2 r k) : EReal) * (w (ix3 0 k j) : EReal)) + b (ix2 0 j) := by
  unfold out
  pointwise

end Cert.Reference4Ideal.Adaln

namespace Cert.Kernel4Ideal.Adaln

open Cert.Kernel4Ideal Cert.Kernel4Ideal.Gen Idealize.ShloMosaic Idealize.ShloMosaic.TcCoe Idealize.SL.Sem
open Idealize.ShloMosaic.Pipeline (Dat)
open scoped BigOperators

theorem zero_f32 : (FloatOps.ofBits .f32 0x00000000#32 : Ideal .f32) = (0 : EReal) := by
  show Ideal.ofBits .f32 0x00000000#32 = 0
  simp [Ideal.ofBits, Ideal.ieee]

/-- The kernel's `silu`, its negation a subtraction from zero. -/
def act (u : Vec Ideal S8x1024 .f32) : FVec Ideal S8x1024 .f32 :=
  mulf u (divf (broadcast S8x1024 (Scalar.ofBits .f32 0x3F800000#32)) (addf (broadcast S8x1024 (Scalar.ofBits .f32 0x3F800000#32))
    (exp (subf (broadcast S8x1024 (Scalar.ofBits .f32 0x00000000#32)) u))))

set_option backward.isDefEq.respectTransparency false in
theorem act_read (u : Vec Ideal S8x1024 .f32) (r : Fin 8) (k : Fin 1024) : (act u (ix2 r k) : EReal)
    = u (ix2 r k) * Ideal.div (Ideal.ofBits .f32 0x3F800000#32) (Ideal.ofBits .f32 0x3F800000#32
      + Ideal.exp (Ideal.ofBits .f32 0x00000000#32 - u (ix2 r k))) := by
  unfold act
  pointwise

theorem act_apply (u : Vec Ideal S8x1024 .f32) (r : Fin 8) (k : Fin 1024) : (act u (ix2 r k) : EReal) = _root_.Adaln.silu (u (ix2 r k)) := by
  rw [act_read, show Ideal.ofBits .f32 0x00000000#32 = (0 : EReal) from zero_f32, zero_sub]
  rfl

theorem product_apply (a : FVec Ideal S8x1024 .f32) (w : FVec Ideal S1024x1536 .f32) (r : Fin 8) (j : Fin 1536) :
    (FloatOps.matmul (F := Ideal) (DotDims.plain 8 1024 1536) (some .fp32) a w (constant S8x1536 .f32 0x00000000#32) (ix2 r j) : EReal)
      = ∑ k : Fin 1024, (a (ix2 r k) : EReal) * (w (ix2 k j) : EReal) := by
  refine Eq.trans (b := (FloatOps.matmul (F := Ideal) (DotDims.plain 8 1024 1536) (some .fp32) a w
    (constant ⟨2, ![8, 1536]⟩ .f32 0x00000000#32) (ValueIdx.ix2 r j) : EReal)) rfl ?_
  rw [Ideal.matmul_plain_apply]
  exact (congrArg (· + _) zero_f32).trans (zero_add _)

/-- An array plus the bias in every row. -/
def biased (P : FVec Ideal S8x1536 .f32) (b : Vec Ideal S1x1536 .f32) : FVec Ideal S8x1536 .f32 :=
  addf P (broadcastTo S8x1536 b broadcasts_S1x1536_S8x1536)

set_option backward.isDefEq.respectTransparency false in
theorem biased_apply (P : FVec Ideal S8x1536 .f32) (b : Vec Ideal S1x1536 .f32) (r : Fin 8) (j : Fin 1536) :
    (biased P b (ix2 r j) : EReal) = (P (ix2 r j) : EReal) + b (ix2 0 j) := by
  unfold biased
  pointwise

theorem block_apply (u : Vec Ideal S8x1024 .f32) (w : Vec Ideal S1024x1536 .f32) (b : Vec Ideal S1x1536 .f32) (r : Fin 8) (j : Fin 1536) :
    (k0_pay1 u w b (ix2 r j) : EReal) = (∑ k : Fin 1024, _root_.Adaln.silu (u (ix2 r k)) * (w (ix2 k j) : EReal)) + b (ix2 0 j) := by
  unfold k0_pay1
  simp only [shapeCast_self]
  refine (biased_apply _ b r j).trans (congrArg (fun a : EReal => a + b (ix2 0 j)) ?_)
  refine (product_apply (act u) w r j).trans ?_
  simp only [act_apply]

variable (m : (ℓ : Loc nD τ sig) → Buf (Elt Ideal) ℓ) (c : Dev nD)

/-- The conditioning, the weights and the bias. -/
abbrev C : (⟨S8x1024, .f32⟩ : BufTy).Contents (Elt Ideal) := m (c, Proc.tc.devRef main_arg0)
abbrev W : (⟨S1x1024x6144, .f32⟩ : BufTy).Contents (Elt Ideal) := m (c, Proc.tc.devRef main_arg1)
abbrev B : (⟨S1x6144, .f32⟩ : BufTy).Contents (Elt Ideal) := m (c, Proc.tc.devRef main_arg2)

theorem weights_eq (k : Fin 1024) (j : Fin 6144) : (V m c main_v0 (ix2 k j) : EReal) = W m c (ix3 0 k j) := by
  unfold V
  after_reads_at

theorem bias_eq (j : Fin 6144) : (V m c main_v2 (ix2 0 j) : EReal) = B m c (ix2 0 j) := by
  unfold V
  after_reads_at

theorem index_eq : ∀ t : Fin cfg0.N,
    (win0_0.index t 0 = 0 ∧ win0_0.index t 1 = 0) ∧ (win0_1.index t 0 = 0 ∧ win0_1.index t 1 = t.val)
      ∧ (win0_2.index t 0 = 0 ∧ win0_2.index t 1 = t.val) ∧ (win0_3.index t 0 = 0 ∧ win0_3.index t 1 = t.val) :=
  (by decide +kernel : ∀ t : Fin grid0.N, _)

theorem t_lt (t : Fin cfg0.N) : t.val < 4 := lt_of_lt_of_eq t.isLt N_0

/-- The modulation, entry by entry. -/
def mod (r : Fin 8) (j : Fin 6144) : EReal :=
  (∑ k : Fin 1024, _root_.Adaln.silu (C m c (ix2 r k)) * (W m c (ix3 0 k j) : EReal)) + B m c (ix2 0 j)

/-- Column `j` of point `t`. -/
def col (t : Fin cfg0.N) (j : Fin 1536) : Fin 6144 := ⟨1536 * t.val + j.val, by have := t_lt t; omega⟩

/-- An entry of a staged block of `a` rows and `b` columns. -/
theorem emb_block {a b A0 A1 : ℕ} (A : (⟨2, ![A0, A1]⟩ : Shape).Idx → EReal) (i : (⟨2, ![A0, A1]⟩ : Shape).Idx) (r : Fin a) (j : Fin b)
    (R : Fin A0) (J : Fin A1) {b0 b1 n0 n1 : ℕ} (e0 : b0 = n0) (e1 : b1 = n1) (h0 : (i 0).val = b0 * a + 1 * r.val) (h1 : (i 1).val = b1 * b + 1 * j.val)
    (hR : R.val = n0 * a + r.val) (hJ : J.val = n1 * b + j.val) : A i = A (ix2 R J) := by
  subst e0
  subst e1
  refine congrArg A (funext fun a => Fin.ext ?_)
  match a with
  | ⟨0, _⟩ => exact h0.trans (by show _ = R.val; omega)
  | ⟨1, _⟩ => exact h1.trans (by show _ = J.val; omega)

section
variable (t : Fin cfg0.N)

theorem iblk0 (r : Fin 8) (k : Fin 1024) : (iblk m c 0 t (ix2 r k) : EReal) = C m c (ix2 r k) := by
  refine Eq.trans (b := (V m c main_arg0 (((cfg0.win 0).blk t).view.emb (ix2 r k)) : EReal)) rfl ?_
  rw [V_main_arg0]
  exact emb_block (C m c) (((cfg0.win 0).blk t).view.emb (ix2 r k)) r k r k (index_eq t).1.1 (index_eq t).1.2 rfl rfl (by omega) (by omega)

theorem iblk1 (k : Fin 1024) (j : Fin 1536) : (iblk m c 1 t (ix2 k j) : EReal) = W m c (ix3 0 k (col t j)) := by
  rw [← weights_eq]
  exact emb_block (V m c main_v0) (((cfg0.win 1).blk t).view.emb (ix2 k j)) k j k (col t j) (index_eq t).2.1.1 (index_eq t).2.1.2 rfl rfl
    (by omega) (by show 1536 * t.val + j.val = t.val * 1536 + j.val; omega)

theorem iblk2 (j : Fin 1536) : (iblk m c 2 t (ix2 0 j) : EReal) = B m c (ix2 0 (col t j)) := by
  rw [← bias_eq]
  exact emb_block (V m c main_v2) (((cfg0.win 2).blk t).view.emb (ix2 0 j)) (a := 1) 0 j 0 (col t j) (index_eq t).2.2.1.1 (index_eq t).2.2.1.2 rfl rfl
    (by rfl) (by show 1536 * t.val + j.val = t.val * 1536 + j.val; omega)

end

theorem hz2 : (![0, 0] : Fin 2 → Nat) = fun _ => 0 := funext fun a => by fin_cases a <;> rfl

/-- The array of results. -/
def modA : (⟨S8x6144, .f32⟩ : BufTy).Contents (Elt Ideal) := fun i => mod m c (i 0) (i 1)

theorem final_mod : (dats m 0 c).arrAt 3 cfg0.N = modA m c :=
  (dats m 0 c).arrAt_eq_of_covers 3 _ (by decide +kernel) fun t _ y => by
    refine (congrFun (Value.flushed3 m c t) y).trans ?_
    obtain ⟨r, j, rfl⟩ : ∃ (r : Fin 8) (j : Fin 1536), y = ix2 r j := ⟨y 0, y 1, by funext a; fin_cases a <;> rfl⟩
    refine Eq.trans ?_ (emb_block (modA m c) (((cfg0.win 3).blk t).view.emb (ix2 r j)) r j r (col t j) (index_eq t).2.2.2.1 (index_eq t).2.2.2.2 rfl rfl
      (by omega) (by show 1536 * t.val + j.val = t.val * 1536 + j.val; omega)).symm
    refine Eq.trans (b := (out0_3 (iblk m c 0 t) (iblk m c 1 t) (iblk m c 2 t) (ix2 r j) : EReal)) rfl ?_
    unfold out0_3
    rw [View.canon_unit_zero hz2, View.ld_unit_zero (S := S8x1024) hz2, View.ld_unit_zero (S := S1024x1536) hz2,
      View.ld_unit_zero (S := S1x1536) hz2]
    refine (block_apply _ _ _ r j).trans ?_
    simp only [iblk0, iblk1, iblk2]
    rfl

/-- The plain modulation of the kernel's own arguments is what the kernel leaves. -/
theorem plain_mod : (Cert.Reference4Ideal.Adaln.out (F := Ideal) (Cert.Reference4Ideal.Adaln.act (C m c)) (W m c) (B m c)
    : (⟨S8x6144, .f32⟩ : BufTy).Contents (Elt Ideal)) = modA m c := by
  funext i
  obtain ⟨r, j, rfl⟩ : ∃ (r : Fin 8) (j : Fin 6144), i = ix2 r j := ⟨i 0, i 1, by funext a; match a with | ⟨0, _⟩ => rfl | ⟨1, _⟩ => rfl⟩
  refine (Cert.Reference4Ideal.Adaln.out_apply _ _ _ r j).trans ?_
  simp only [Cert.Reference4Ideal.Adaln.act_apply]
  rfl

end Cert.Kernel4Ideal.Adaln

end
-- ==== Proof.lean ====
module

public import proofs.«01_k».proof.Proof.Gen.KernelIdeal.Value
public import proofs.«01_k».proof.Proof.Gen.ReferenceIdeal.Run
public import proofs.«01_k».proof.Proof.AttnKernel
public import proofs.«01_k».proof.Proof.AttnRef
public import proofs.«01_k».proof.Proof.Finite
public import proofs.«01_k».proof.Proof.ProjEq
public import proofs.«01_k».proof.Proof.FiniteProj
public import proofs.«01_k».proof.Proof.OutEq
public import proofs.«01_k».proof.Proof.Adaln
public import Idealize.ShloMosaic.Lib.Quiescent
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_finite_proj
public import Idealize.ShloMosaic.Adequacy
public import Idealize.ShloMosaic.Init

@[expose] public section

set_option maxRecDepth 16384

noncomputable section

namespace Cert.Proof

open Idealize.ShloMosaic Idealize.SL.Sem

/-- The reference's frame: host operations, no semaphore. -/
theorem reference_frame : Cert.quiescent_ReferenceIdeal := fun m ρ _ =>
  (θ_run (ReferenceIdeal.defs (F := Ideal)) _ _).mono
    (fun r h => And.intro (fun c => (h c).2) (sem_eq_zero_of_no_sems (by decide) r.2)) (ReferenceIdeal.Value.run m ρ)

/-- The kernel's result is the reference's. -/
theorem algebraic : Cert.algebraic_KernelIdeal_ReferenceIdeal_pre_finite_scores := by
  intro m ρ m' ρ' hpre hagree
  refine ⟨fun c => (KernelIdeal.Gen.dats m 0 c).arrAt 9 KernelIdeal.cfg0.N, KernelIdeal.Value.run_blocks m ρ, ?_⟩
  refine (θ_run (ReferenceIdeal.defs (F := Ideal)) _ _).mono (fun r h c => ⟨(h c).1.trans ?_, (h c).2⟩) (ReferenceIdeal.Value.run m' ρ')
  obtain ⟨e0, e1, e2, e3, e4⟩ := hagree c
  obtain ⟨r0, r1, r3⟩ := Pre_finite_scores.Real.reals _ _ _ _ _ (hpre c)
  rw [ReferenceIdeal.Attn.res_eq, e0, e1, e2, e3, e4]
  refine Eq.trans ?_ (KernelIdeal.Attn.final_eq (m := m) (c := c) (q := fun R x => EReal.toReal (m (c, Proc.tc.devRef KernelIdeal.main_arg0) (ix2 R x)))
      (k := fun R x => EReal.toReal (m (c, Proc.tc.devRef KernelIdeal.main_arg1) (ix2 R x)))
      (rel := fun h x => EReal.toReal (m (c, Proc.tc.devRef KernelIdeal.main_arg3) (ix3 0 h x)))
      ⟨fun R x => (r0 (ix2 R x)).symm, fun R x => (r1 (ix2 R x)).symm, fun h x => (r3 (ix3 0 h x)).symm⟩).symm
  funext i
  obtain ⟨R, X, rfl⟩ : ∃ R X, i = ix2 R X := ⟨i 0, i 1, by funext a; match a with | ⟨0, _⟩ => rfl | ⟨1, _⟩ => rfl⟩
  exact ReferenceIdeal.Attn.out_apply _ _ _ _ _ _ _ _ (fun R x => (r0 (ix2 R x)).symm) (fun R x => (r1 (ix2 R x)).symm)
    (fun h x => (r3 (ix3 0 h x)).symm) R X

/-- The frame of the plain input projection. -/
theorem reference2_frame : Cert.quiescent_Reference2Ideal := fun m ρ _ =>
  (θ_run (Reference2Ideal.defs (F := Ideal)) _ _).mono
    (fun r h => And.intro (fun c => (h c).2.2.2.2.2.2) (sem_eq_zero_of_no_sems (by decide) r.2)) (Reference2Ideal.Value.run m ρ)

/-- The input projection's results are the plain projection's. -/
theorem algebraic2 : Cert.algebraic_Kernel2Ideal_Reference2Ideal_pre_finite_proj := by
  intro m ρ m' ρ' hpre hagree
  refine ⟨_, _, _, _, _, _, Kernel2Ideal.Value.run_blocks m ρ, ?_⟩
  refine (θ_run (Reference2Ideal.defs (F := Ideal)) _ _).mono (fun r h c => ?_) (Reference2Ideal.Value.run m' ρ')
  obtain ⟨hz, hxbc, hq, hk, hv, hdt, hargs⟩ := h c
  obtain ⟨e0, e1, e2, e3⟩ := hagree c
  rw [e0, e1, e2, e3] at hz hxbc hq hk hv hdt
  refine ⟨hz.trans ?_, hxbc.trans ?_, hq.trans ?_, hk.trans ?_, hv.trans ?_, hdt.trans ?_, hargs⟩
  · exact (Kernel2Ideal.Proj.plain_z m c).trans (Kernel2Ideal.Proj.final_z m c).symm
  · exact (Kernel2Ideal.Proj.plain_xbc m c).trans (Kernel2Ideal.Proj.final_xbc m c).symm
  · exact (Kernel2Ideal.Proj.plain_q m c).trans (Kernel2Ideal.Proj.final_q m c).symm
  · exact (Kernel2Ideal.Proj.plain_k m c).trans (Kernel2Ideal.Proj.final_k m c).symm
  · exact (Kernel2Ideal.Proj.plain_v m c).trans (Kernel2Ideal.Proj.final_v m c).symm
  · exact (Kernel2Ideal.Proj.plain_dt m c).trans (Kernel2Ideal.Proj.final_dt m c (Kernel2Ideal.Proj.h_real m c
      (Pre_finite_proj.Real.modulation (hpre c)) (Pre_finite_proj.Real.gain (hpre c))) (Pre_finite_proj.Real.weights (hpre c))).symm

/-- The frame of the plain output projection. -/
theorem reference3_frame : Cert.quiescent_Reference3Ideal := fun m ρ _ =>
  (θ_run (Reference3Ideal.defs (F := Ideal)) _ _).mono
    (fun r h => And.intro (fun c => (h c).2.2) (sem_eq_zero_of_no_sems (by decide) r.2)) (Reference3Ideal.Value.run m ρ)

/-- The output projection's results are the plain projection's. -/
theorem algebraic3 : Cert.algebraic_Kernel3Ideal_Reference3Ideal := by
  intro m ρ m' ρ' hpre hagree
  refine ⟨fun c => (Kernel3Ideal.Gen.dats m 0 c).arrAt 10 Kernel3Ideal.cfg0.N, fun c => (Kernel3Ideal.Gen.dats m 0 c).arrAt 11 Kernel3Ideal.cfg0.N,
    (θ_run (Kernel3Ideal.defs (F := Ideal)) _ _).mono (fun r h c => ?_) (Kernel3Ideal.Value.run_blocks m ρ), ?_⟩
  · obtain ⟨hx, hh, _, _, _, hargs⟩ := h c
    exact ⟨hx, hh, hargs⟩
  refine (θ_run (Reference3Ideal.defs (F := Ideal)) _ _).mono (fun r h c => ?_) (Reference3Ideal.Value.run m' ρ')
  obtain ⟨hx, hh, hargs⟩ := h c
  obtain ⟨e0, e1, e2, e3, e4, e5, _⟩ := hagree c
  rw [e0, e1, e2, e3, e4] at hx
  rw [e0, e1, e2, e3, e4, e5] at hh
  refine ⟨hx.trans ?_, hh.trans ?_, hargs⟩
  · exact (Kernel3Ideal.Out.plain_x1 m c).trans (Kernel3Ideal.Out.final_x1 m c).symm
  · exact (Kernel3Ideal.Out.plain_h2 m c).trans (Kernel3Ideal.Out.final_h2 m c).symm

/-- The frame of the plain modulation. -/
theorem reference4_frame : Cert.quiescent_Reference4Ideal := fun m ρ _ =>
  (θ_run (Reference4Ideal.defs (F := Ideal)) _ _).mono
    (fun r h => And.intro (fun c => (h c).2) (sem_eq_zero_of_no_sems (by decide) r.2)) (Reference4Ideal.Value.run m ρ)

/-- The modulation is the plain one. -/
theorem algebraic4 : Cert.algebraic_Kernel4Ideal_Reference4Ideal := by
  intro m ρ m' ρ' hpre hagree
  refine ⟨_, Kernel4Ideal.Value.run_blocks m ρ, ?_⟩
  refine (θ_run (Reference4Ideal.defs (F := Ideal)) _ _).mono (fun r h c => ?_) (Reference4Ideal.Value.run m' ρ')
  obtain ⟨hx, hargs⟩ := h c
  obtain ⟨e0, e1, e2⟩ := hagree c
  rw [e0, e1, e2] at hx
  exact ⟨hx.trans ((Kernel4Ideal.Adaln.plain_mod m c).trans (Kernel4Ideal.Adaln.final_mod m c).symm), hargs⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_finite_scores.Gen.facts, Cert.Pre_finite_proj.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Kernel2.Gen.frame m ρ, fun m ρ _ => Cert.Kernel2Ideal.Gen.frame m ρ, fun m ρ _ => Cert.Kernel2Ideal.Gen.frame m ρ,
  reference2_frame, fun m ρ _ => reference2_frame m ρ trivial,
  fun m ρ _ => Cert.Kernel3.Gen.frame m ρ, fun m ρ _ => Cert.Kernel3Ideal.Gen.frame m ρ, reference3_frame,
  fun m ρ _ => Cert.Kernel4.Gen.frame m ρ, fun m ρ _ => Cert.Kernel4Ideal.Gen.frame m ρ, reference4_frame,
  ⟨IdealRules.named_const.statement Cert.KernelIdeal.κ "qscale" _ _ _ rfl, IdealRules.named_const.statement Cert.KernelIdeal.κ "log2e" _ _ _ rfl⟩,
  algebraic,
  ⟨IdealRules.named_const.statement Cert.Kernel2Ideal.κ "qscale" _ _ _ rfl, IdealRules.bf16_pack.statement _⟩,
  algebraic2, IdealRules.bf16_pack.statement _, algebraic3, trivial, algebraic4⟩

end Cert.Proof

end
